-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_on_latent_rows_pre_finite [hKernelIdeal : Cert.KernelIdeal.Facts] [hReferenceIdeal : Cert.ReferenceIdeal.Facts] [hPre_finite : Cert.Pre_finite.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16640, 2048]⟩ : Shape).Idx, (Cert.On_latent_rows.fn (F := Ideal) (m ((c.tc : Thread Cert.KernelIdeal.nD Cert.KernelIdeal.τ).loc Cert.KernelIdeal.main_arg0))) i = 1#1 → r.2.mem ((c.tc : Thread Cert.KernelIdeal.nD Cert.KernelIdeal.τ).loc Cert.KernelIdeal.main_v3) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16640, 2048]⟩ : Shape).Idx, (Cert.On_latent_rows.fn (F := Ideal) (m ((c.tc : Thread Cert.KernelIdeal.nD Cert.KernelIdeal.τ).loc Cert.KernelIdeal.main_arg0))) i = 1#1 → r.2.mem ((c.tc : Thread Cert.ReferenceIdeal.nD Cert.ReferenceIdeal.τ).loc Cert.ReferenceIdeal.main_v38) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_on_latent_rows3_pre_finite3 [hKernel3Ideal : Cert.Kernel3Ideal.Facts] [hReference3Ideal : Cert.Reference3Ideal.Facts] [hPre_finite3 : Cert.Pre_finite3.Facts] [hOn_latent_rows3 : Cert.On_latent_rows3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![16640, 1024]⟩ : Shape).Idx, (Cert.On_latent_rows3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) i = 1#1 → r.2.mem ((c.tc : Thread Cert.Kernel3Ideal.nD Cert.Kernel3Ideal.τ).loc Cert.Kernel3Ideal.main_v4) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![16640, 1024]⟩ : Shape).Idx, (Cert.On_latent_rows3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) i = 1#1 → r.2.mem ((c.tc : Thread Cert.Reference3Ideal.nD Cert.Reference3Ideal.τ).loc Cert.Reference3Ideal.main_v99) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts) (hOn_latent_rows : Cert.On_latent_rows.Facts) (hOn_latent_rows3 : Cert.On_latent_rows3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_on_latent_rows_pre_finite (hKernelIdeal := hKernelIdeal) (hReferenceIdeal := hReferenceIdeal) (hPre_finite := hPre_finite) (hOn_latent_rows := hOn_latent_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_latent_rows3_pre_finite3 (hKernel3Ideal := hKernel3Ideal) (hReference3Ideal := hReference3Ideal) (hPre_finite3 := hPre_finite3) (hOn_latent_rows3 := hOn_latent_rows3)
-- ==== On_latent_rows.lean ====
abbrev S16640x5120 : Shape := ⟨2, ![16640, 5120]⟩
abbrev S16640x2048 : Shape := ⟨2, ![16640, 2048]⟩
abbrev S_ : Shape := ⟨0, ![]⟩

class Facts : Prop where
  bcast_S_S16640x2048 : S_.BroadcastsInDim S16640x2048 (![] : Fin 0 → Fin S16640x2048.rank)

variable [Facts]

def fn {F : FTy → Type} [FloatOps F] (main_arg0 : FVec F S16640x5120 .bf16) : IVec S16640x2048 1 :=
  let main_v0 : IVec S16640x2048 32 := iotaInDim S16640x2048 32 0
  let main_c : IVec S_ 32 := constantI S_ 32 16384#32
  let main_v1 : IVec S16640x2048 32 := broadcastInDim S16640x2048 ![] bcast_S_S16640x2048 main_c
  let main_v2 : IVec S16640x2048 1 := cmpi .slt main_v0 main_v1
  main_v2
-- ==== On_latent_rows3.lean ====
abbrev S16640x7168 : Shape := ⟨2, ![16640, 7168]⟩
abbrev S4x64 : Shape := ⟨2, ![4, 64]⟩
abbrev S128 : Shape := ⟨1, ![128]⟩
abbrev S16640x1024 : Shape := ⟨2, ![16640, 1024]⟩
abbrev S_ : Shape := ⟨0, ![]⟩

class Facts : Prop where
  bcast_S_S16640x1024 : S_.BroadcastsInDim S16640x1024 (![] : Fin 0 → Fin S16640x1024.rank)

variable [Facts]

def fn {F : FTy → Type} [FloatOps F] (main_arg0 : FVec F S16640x7168 .bf16) (main_arg1 : FVec F S4x64 .f32) (main_arg2 : FVec F S128 .f32) : IVec S16640x1024 1 :=
  let main_v0 : IVec S16640x1024 32 := iotaInDim S16640x1024 32 0
  let main_c : IVec S_ 32 := constantI S_ 32 16384#32
  let main_v1 : IVec S16640x1024 32 := broadcastInDim S16640x1024 ![] bcast_S_S16640x1024 main_c
  let main_v2 : IVec S16640x1024 1 := cmpi .slt main_v0 main_v1
  main_v2
-- ==== Pre_finite.lean ====
abbrev S16640x5120 : Shape := ⟨2, ![16640, 5120]⟩
abbrev S_ : Shape := ⟨0, ![]⟩

class Facts : Prop where
  bcast_S_S16640x5120 : S_.BroadcastsInDim S16640x5120 (![] : Fin 0 → Fin S16640x5120.rank)

variable [Facts]

def fn {F : FTy → Type} [FloatOps F] (main_arg0 : FVec F S16640x5120 .bf16) : IVec S16640x5120 1 :=
  let main_cst : FVec F S_ .bf16 := constant S_ .bf16 0xFF80#16
  let main_v0 : FVec F S16640x5120 .bf16 := broadcastInDim S16640x5120 ![] bcast_S_S16640x5120 main_cst
  let main_v1 : IVec S16640x5120 1 := cmpf .ogt main_arg0 main_v0
  let main_cst_0 : FVec F S_ .bf16 := constant S_ .bf16 0x7F80#16
  let main_v2 : FVec F S16640x5120 .bf16 := broadcastInDim S16640x5120 ![] bcast_S_S16640x5120 main_cst_0
  let main_v3 : IVec S16640x5120 1 := cmpf .olt main_arg0 main_v2
  let main_v4 : IVec S16640x5120 1 := andi main_v1 main_v3
  main_v4
-- ==== Pre_finite3.lean ====
abbrev S16640x7168 : Shape := ⟨2, ![16640, 7168]⟩
abbrev S4x64 : Shape := ⟨2, ![4, 64]⟩
abbrev S128 : Shape := ⟨1, ![128]⟩
abbrev S_ : Shape := ⟨0, ![]⟩

class Facts : Prop where
  bcast_S_S16640x7168 : S_.BroadcastsInDim S16640x7168 (![] : Fin 0 → Fin S16640x7168.rank)
  bcast_S_S4x64 : S_.BroadcastsInDim S4x64 (![] : Fin 0 → Fin S4x64.rank)

variable [Facts]

def fn {F : FTy → Type} [FloatOps F] (main_arg0 : FVec F S16640x7168 .bf16) (main_arg1 : FVec F S4x64 .f32) (main_arg2 : FVec F S128 .f32) : IVec S16640x7168 1 × IVec S4x64 1 :=
  let main_cst : FVec F S_ .bf16 := constant S_ .bf16 0xFF80#16
  let main_v0 : FVec F S16640x7168 .bf16 := broadcastInDim S16640x7168 ![] bcast_S_S16640x7168 main_cst
  let main_v1 : IVec S16640x7168 1 := cmpf .ogt main_arg0 main_v0
  let main_cst_0 : FVec F S_ .bf16 := constant S_ .bf16 0x7F80#16
  let main_v2 : FVec F S16640x7168 .bf16 := broadcastInDim S16640x7168 ![] bcast_S_S16640x7168 main_cst_0
  let main_v3 : IVec S16640x7168 1 := cmpf .olt main_arg0 main_v2
  let main_v4 : IVec S16640x7168 1 := andi main_v1 main_v3
  let main_cst_1 : FVec F S_ .f32 := constant S_ .f32 0xFF800000#32
  let main_v5 : FVec F S4x64 .f32 := broadcastInDim S4x64 ![] bcast_S_S4x64 main_cst_1
  let main_v6 : IVec S4x64 1 := cmpf .ogt main_arg1 main_v5
  let main_cst_2 : FVec F S_ .f32 := constant S_ .f32 0x7F800000#32
  let main_v7 : FVec F S4x64 .f32 := broadcastInDim S4x64 ![] bcast_S_S4x64 main_cst_2
  let main_v8 : IVec S4x64 1 := cmpf .olt main_arg1 main_v7
  let main_v9 : IVec S4x64 1 := andi main_v6 main_v8
  (main_v4, main_v9)
-- ==== Kernel.lean ====
abbrev S16640x5120 : Shape := ⟨2, ![16640, 5120]⟩
abbrev S16640x512 : Shape := ⟨2, ![16640, 512]⟩
abbrev S13x1280x4x128 : Shape := ⟨4, ![13, 1280, 4, 128]⟩
abbrev S4x13x128x1280 : Shape := ⟨4, ![4, 13, 128, 1280]⟩
abbrev S16640x2048 : Shape := ⟨2, ![16640, 2048]⟩
abbrev S256x512 : Shape := ⟨2, ![256, 512]⟩
abbrev S16640x128 : Shape := ⟨2, ![16640, 128]⟩
abbrev S1x13x128x1280 : Shape := ⟨4, ![1, 13, 128, 1280]⟩
abbrev S1280x1024 : Shape := ⟨2, ![1280, 1024]⟩
abbrev S1x1024 : Shape := ⟨2, ![1, 1024]⟩
abbrev S128x1024 : Shape := ⟨2, ![128, 1024]⟩
abbrev S256x128 : Shape := ⟨2, ![256, 128]⟩
abbrev S1024x128 : Shape := ⟨2, ![1024, 128]⟩
abbrev S1280x128 : Shape := ⟨2, ![1280, 128]⟩
abbrev S1024 : Shape := ⟨1, ![1024]⟩
abbrev S1x1x128x1280 : Shape := ⟨4, ![1, 1, 128, 1280]⟩
abbrev S128x1280 : Shape := ⟨2, ![128, 1280]⟩
abbrev S128x256 : Shape := ⟨2, ![128, 256]⟩

abbrev nBuf : Space → Nat
  | .hbm => 5
  | .vmem => 15
  | .smem => 0
  | _ => 0

abbrev bufTy : (tb : Table) → Fin (tcTables nBuf tb) → BufTy
  | .hbm, ⟨0, _⟩ => ⟨S16640x5120, .bf16⟩
  | .hbm, ⟨1, _⟩ => ⟨S16640x512, .bf16⟩
  | .hbm, ⟨2, _⟩ => ⟨S13x1280x4x128, .bf16⟩
  | .hbm, ⟨3, _⟩ => ⟨S4x13x128x1280, .bf16⟩
  | .hbm, ⟨4, _⟩ => ⟨S16640x2048, .bf16⟩
  | .local _ .vmem, ⟨0, _⟩ => ⟨S256x512, .bf16⟩
  | .local _ .vmem, ⟨1, _⟩ => ⟨S256x512, .bf16⟩
  | .local _ .vmem, ⟨2, _⟩ => ⟨S16640x128, .bf16⟩
  | .local _ .vmem, ⟨3, _⟩ => ⟨S16640x128, .bf16⟩
  | .local _ .vmem, ⟨4, _⟩ => ⟨S1x13x128x1280, .bf16⟩
  | .local _ .vmem, ⟨5, _⟩ => ⟨S1x13x128x1280, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S1280x1024, .f32⟩
  | .local _ .vmem, ⟨11, _⟩ => ⟨S1280x1024, .f32⟩
  | .local _ .vmem, ⟨12, _⟩ => ⟨S1x1024, .f32⟩
  | .local _ .vmem, ⟨13, _⟩ => ⟨S1x1024, .f32⟩
  | .local _ .vmem, ⟨14, _⟩ => ⟨S128x1024, .f32⟩
  | _, _ => ⟨S16640x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 64], ![false, false]⟩

def k0_mult1 : BitVec 32 :=
  let c0_i32 : BitVec 32 := 0#32
  c0_i32
@[reducible] def k0_t1_loop : Scf.Loop 32 :=
  let c0_i32_16 : BitVec 32 := 0#32
  let c6_i32 : BitVec 32 := 6#32
  let v24 : BitVec 32 := Scalar.addi c0_i32_16 c6_i32
  let c1_i32 : BitVec 32 := 1#32
  ⟨c0_i32_16, v24, c1_i32⟩
def k0_mult2 (k0_t1 : Fin k0_t1_loop.trips) : BitVec 32 :=
  let c2_i32 : BitVec 32 := 2#32
  let c0_i32_16 : BitVec 32 := 0#32
  let c1_i32 : BitVec 32 := 1#32
  let arg12 : BitVec 32 := Scf.iv c0_i32_16 c1_i32 k0_t1
  let v113 : BitVec 32 := Scalar.muli c2_i32 arg12
  let c1_i32_66 : BitVec 32 := 1#32
  let v114 : BitVec 32 := Scalar.addi v113 c1_i32_66
  let c1280_i32 : BitVec 32 := 1280#32
  let v115 : BitVec 32 := Scalar.muli v114 c1280_i32
  v115
def k0_off1 (k0_t1 : Fin k0_t1_loop.trips) (c1_i32_66 : BitVec 32) : Fin 2 → Nat :=
  let c2_i32 : BitVec 32 := 2#32
  let c0_i32_16 : BitVec 32 := 0#32
  let c1_i32 : BitVec 32 := 1#32
  let arg12 : BitVec 32 := Scf.iv c0_i32_16 c1_i32 k0_t1
  let v113 : BitVec 32 := Scalar.muli c2_i32 arg12
  let v114 : BitVec 32 := Scalar.addi v113 c1_i32_66
  let c1280_i32 : BitVec 32 := 1280#32
  let v115 : BitVec 32 := Scalar.muli v114 c1280_i32
  let v116 : BitVec 32 := v115
  let v117 : Index := Scalar.indexCast v116
  let c0_67 : Index := 0#32
  ![v117.toNat, 0]
def k0_off2 (k0_t1 : Fin k0_t1_loop.trips) : Fin 4 → Nat :=
  let c0_85 : Index := 0#32
  let c2_i32 : BitVec 32 := 2#32
  let c0_i32_16 : BitVec 32 := 0#32
  let c1_i32 : BitVec 32 := 1#32
  let arg12 : BitVec 32 := Scf.iv c0_i32_16 c1_i32 k0_t1
  let v113 : BitVec 32 := Scalar.muli c2_i32 arg12
  let v147 : Index := Scalar.indexCast v113
  let c0_86 : Index := 0#32
  let c0_87 : Index := 0#32
  ![0, v147.toNat, 0, 0]
def k0_mult3 (k0_t1 : Fin k0_t1_loop.trips) : BitVec 32 :=
  let c2_i32 : BitVec 32 := 2#32
  let c0_i32_16 : BitVec 32 := 0#32
  let c1_i32 : BitVec 32 := 1#32
  let arg12 : BitVec 32 := Scf.iv c0_i32_16 c1_i32 k0_t1
  let v113 : BitVec 32 := Scalar.muli c2_i32 arg12
  let c2_i32_91 : BitVec 32 := 2#32
  let v156 : BitVec 32 := Scalar.addi v113 c2_i32_91
  let c1280_i32_92 : BitVec 32 := 1280#32
  let v157 : BitVec 32 := Scalar.muli v156 c1280_i32_92
  v157
def k0_off3 (k0_t1 : Fin k0_t1_loop.trips) : Fin 4 → Nat :=
  let c0_112 : Index := 0#32
  let c2_i32 : BitVec 32 := 2#32
  let c0_i32_16 : BitVec 32 := 0#32
  let c1_i32 : BitVec 32 := 1#32
  let arg12 : BitVec 32 := Scf.iv c0_i32_16 c1_i32 k0_t1
  let v113 : BitVec 32 := Scalar.muli c2_i32 arg12
  let c1_i32_97 : BitVec 32 := 1#32
  let v165 : BitVec 32 := Scalar.addi v113 c1_i32_97
  let v190 : Index := Scalar.indexCast v165
  let c0_113 : Index := 0#32
  let c0_114 : Index := 0#32
  ![0, v190.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c6_i32 : BitVec 32 := 6#32
  let v1 : BitVec 32 := Scalar.addi c6_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x13x128x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16640x5120 : Shape := ⟨2, ![16640, 5120]⟩
abbrev S16640x2048 : Shape := ⟨2, ![16640, 2048]⟩
abbrev S16640x512 : Shape := ⟨2, ![16640, 512]⟩
abbrev S16384x2048 : Shape := ⟨2, ![16384, 2048]⟩
abbrev S16384x16x128 : Shape := ⟨3, ![16384, 16, 128]⟩
abbrev S16x16384x128 : Shape := ⟨3, ![16, 16384, 128]⟩
abbrev S4x4x16384x128 : Shape := ⟨4, ![4, 4, 16384, 128]⟩
abbrev S16640x4x128 : Shape := ⟨3, ![16640, 4, 128]⟩
abbrev S4x16640x128 : Shape := ⟨3, ![4, 16640, 128]⟩
abbrev S4x4x16384x16640 : Shape := ⟨4, ![4, 4, 16384, 16640]⟩
abbrev S_ : Shape := ⟨0, ![]⟩
abbrev S4x4x16384 : Shape := ⟨3, ![4, 4, 16384]⟩
abbrev S4x4x16384x1 : Shape := ⟨4, ![4, 4, 16384, 1]⟩
abbrev S256x2048 : Shape := ⟨2, ![256, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16640x5120, .bf16⟩
  | .hbm, ⟨1, _⟩ => ⟨S16640x5120, .f32⟩
  | .hbm, ⟨2, _⟩ => ⟨S16640x2048, .f32⟩
  | .hbm, ⟨3, _⟩ => ⟨S16640x512, .f32⟩
  | .hbm, ⟨4, _⟩ => ⟨S16640x512, .f32⟩
  | .hbm, ⟨5, _⟩ => ⟨S16640x2048, .f32⟩
  | .hbm, ⟨6, _⟩ => ⟨S16384x2048, .f32⟩
  | .hbm, ⟨7, _⟩ => ⟨S16384x16x128, .f32⟩
  | .hbm, ⟨8, _⟩ => ⟨S16x16384x128, .f32⟩
  | .hbm, ⟨9, _⟩ => ⟨S4x4x16384x128, .f32⟩
  | .hbm, ⟨10, _⟩ => ⟨S16640x4x128, .f32⟩
  | .hbm, ⟨11, _⟩ => ⟨S4x16640x128, .f32⟩
  | .hbm, ⟨12, _⟩ => ⟨S16640x4x128, .f32⟩
  | .hbm, ⟨13, _⟩ => ⟨S4x16640x128, .f32⟩
  | .hbm, ⟨14, _⟩ => ⟨S4x4x16384x16640, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4x4x16384x16640, .f32⟩
  | .hbm, ⟨19, _⟩ => ⟨S4x4x16384x16640, .f32⟩
  | .hbm, ⟨20, _⟩ => ⟨S_, .f32⟩
  | .hbm, ⟨21, _⟩ => ⟨S4x4x16384, .f32⟩
  | .hbm, ⟨22, _⟩ => ⟨S_, .f32⟩
  | .hbm, ⟨23, _⟩ => ⟨S4x4x16384, .f32⟩
  | .hbm, ⟨24, _⟩ => ⟨S4x4x16384, .f32⟩
  | .hbm, ⟨25, _⟩ => ⟨S4x4x16384x1, .f32⟩
  | .hbm, ⟨26, _⟩ => ⟨S4x4x16384x16640, .f32⟩
  | .hbm, ⟨27, _⟩ => ⟨S4x4x16384x16640, .f32⟩
  | .hbm, ⟨28, _⟩ => ⟨S4x4x16384x16640, .f32⟩
  | .hbm, ⟨29, _⟩ => ⟨S_, .f32⟩
  | .hbm, ⟨30, _⟩ => ⟨S4x4x16384, .f32⟩
  | .hbm, ⟨31, _⟩ => ⟨S4x4x16384x1, .f32⟩
  | .hbm, ⟨32, _⟩ => ⟨S4x4x16384x16640, .f32⟩
  | .hbm, ⟨33, _⟩ => ⟨S4x4x16384x16640, .f32⟩
  | .hbm, ⟨34, _⟩ => ⟨S4x4x16384x128, .f32⟩
  | .hbm, ⟨35, _⟩ => ⟨S16x16384x128, .f32⟩
  | .hbm, ⟨36, _⟩ => ⟨S16384x16x128, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S_, .f32⟩
  | .hbm, ⟨50, _⟩ => ⟨S256x2048, .f32⟩
  | .hbm, ⟨51, _⟩ => ⟨S16640x2048, .f32⟩
  | .hbm, ⟨52, _⟩ => ⟨S16640x2048, .bf16⟩
  | _, _ => ⟨S16640x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst_0 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_2 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel2.lean ====
abbrev S16640x2048 : Shape := ⟨2, ![16640, 2048]⟩
abbrev S2x2048x2048 : Shape := ⟨3, ![2, 2048, 2048]⟩
abbrev S4x8x6144 : Shape := ⟨3, ![4, 8, 6144]⟩
abbrev S2048 : Shape := ⟨1, ![2048]⟩
abbrev S1x2048x2048 : Shape := ⟨3, ![1, 2048, 2048]⟩
abbrev S2048x2048 : Shape := ⟨2, ![2048, 2048]⟩
abbrev S1x8x6144 : Shape := ⟨3, ![1, 8, 6144]⟩
abbrev S8x6144 : Shape := ⟨2, ![8, 6144]⟩
abbrev S1x2048 : Shape := ⟨2, ![1, 2048]⟩
abbrev S16384x2048 : Shape := ⟨2, ![16384, 2048]⟩
abbrev S256x2048 : Shape := ⟨2, ![256, 2048]⟩
abbrev S256x1 : Shape := ⟨2, ![256, 1]⟩
abbrev S256 : Shape := ⟨1, ![256]⟩

abbrev nBuf : Space → Nat
  | .hbm => 12
  | .vmem => 9
  | .smem => 0
  | _ => 0

abbrev bufTy : (tb : Table) → Fin (tcTables nBuf tb) → BufTy
  | .hbm, ⟨0, _⟩ => ⟨S16640x2048, .f32⟩
  | .hbm, ⟨1, _⟩ => ⟨S16640x2048, .bf16⟩
  | .hbm, ⟨2, _⟩ => ⟨S2x2048x2048, .f32⟩
  | .hbm, ⟨3, _⟩ => ⟨S4x8x6144, .f32⟩
  | .hbm, ⟨4, _⟩ => ⟨S2048, .f32⟩
  | .hbm, ⟨5, _⟩ => ⟨S2x2048x2048, .bf16⟩
  | .hbm, ⟨6, _⟩ => ⟨S1x2048x2048, .bf16⟩
  | .hbm, ⟨7, _⟩ => ⟨S2048x2048, .bf16⟩
  | .hbm, ⟨8, _⟩ => ⟨S1x8x6144, .f32⟩
  | .hbm, ⟨9, _⟩ => ⟨S8x6144, .f32⟩
  | .hbm, ⟨10, _⟩ => ⟨S1x2048, .f32⟩
  | .hbm, ⟨11, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S8x6144, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S16640x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16640x2048 : Shape := ⟨2, ![16640, 2048]⟩
abbrev S2x2048x2048 : Shape := ⟨3, ![2, 2048, 2048]⟩
abbrev S4x8x6144 : Shape := ⟨3, ![4, 8, 6144]⟩
abbrev S2048 : Shape := ⟨1, ![2048]⟩
abbrev S16384x2048 : Shape := ⟨2, ![16384, 2048]⟩
abbrev S1x1x6144 : Shape := ⟨3, ![1, 1, 6144]⟩
abbrev S6144 : Shape := ⟨1, ![6144]⟩
abbrev S1x2048x2048 : Shape := ⟨3, ![1, 2048, 2048]⟩
abbrev S2048x2048 : Shape := ⟨2, ![2048, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 36
  | .vmem => 0
  | .smem => 0
  | _ => 0

abbrev bufTy : (tb : Table) → Fin (tcTables nBuf tb) → BufTy
  | .hbm, ⟨0, _⟩ => ⟨S16640x2048, .f32⟩
  | .hbm, ⟨1, _⟩ => ⟨S16640x2048, .bf16⟩
  | .hbm, ⟨2, _⟩ => ⟨S2x2048x2048, .f32⟩
  | .hbm, ⟨3, _⟩ => ⟨S4x8x6144, .f32⟩
  | .hbm, ⟨4, _⟩ => ⟨S2048, .f32⟩
  | .hbm, ⟨5, _⟩ => ⟨S16384x2048, .f32⟩
  | .hbm, ⟨6, _⟩ => ⟨S1x1x6144, .f32⟩
  | .hbm, ⟨7, _⟩ => ⟨S6144, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S16384x2048, .bf16⟩
  | .hbm, ⟨12, _⟩ => ⟨S16384x2048, .f32⟩
  | .hbm, ⟨13, _⟩ => ⟨S1x2048x2048, .f32⟩
  | .hbm, ⟨14, _⟩ => ⟨S2048x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x2048, .f32⟩
  | .hbm, ⟨32, _⟩ => ⟨S16384x2048, .f32⟩
  | .hbm, ⟨33, _⟩ => ⟨S1x2048, .f32⟩
  | .hbm, ⟨34, _⟩ => ⟨S16384x2048, .f32⟩
  | .hbm, ⟨35, _⟩ => ⟨S16384x2048, .f32⟩
  | _, _ => ⟨S16640x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel3.lean ====
abbrev S16640x7168 : Shape := ⟨2, ![16640, 7168]⟩
abbrev S4x64 : Shape := ⟨2, ![4, 64]⟩
abbrev S128 : Shape := ⟨1, ![128]⟩
abbrev S16640x1024 : Shape := ⟨2, ![16640, 1024]⟩
abbrev S13x1280x8x128 : Shape := ⟨4, ![13, 1280, 8, 128]⟩
abbrev S8x13x128x1280 : Shape := ⟨4, ![8, 13, 128, 1280]⟩
abbrev S1x128 : Shape := ⟨2, ![1, 128]⟩
abbrev S512x128 : Shape := ⟨2, ![512, 128]⟩
abbrev S16640x128 : Shape := ⟨2, ![16640, 128]⟩
abbrev S1x13x128x1280 : Shape := ⟨4, ![1, 13, 128, 1280]⟩
abbrev S1280x1024 : Shape := ⟨2, ![1280, 1024]⟩
abbrev S1x1024 : Shape := ⟨2, ![1, 1024]⟩
abbrev S128x1024 : Shape := ⟨2, ![128, 1024]⟩
abbrev S1024x128 : Shape := ⟨2, ![1024, 128]⟩
abbrev S1280x128 : Shape := ⟨2, ![1280, 128]⟩
abbrev S1024 : Shape := ⟨1, ![1024]⟩
abbrev S1x1x128x1280 : Shape := ⟨4, ![1, 1, 128, 1280]⟩
abbrev S128x1280 : Shape := ⟨2, ![128, 1280]⟩
abbrev S1x64 : Shape := ⟨2, ![1, 64]⟩
abbrev S1 : Shape := ⟨1, ![1]⟩
abbrev S1x1 : Shape := ⟨2, ![1, 1]⟩
abbrev S128x512 : Shape := ⟨2, ![128, 512]⟩
abbrev S512 : Shape := ⟨1, ![512]⟩
abbrev S512x1 : Shape := ⟨2, ![512, 1]⟩

abbrev nBuf : Space → Nat
  | .hbm => 8
  | .vmem => 17
  | .smem => 0
  | _ => 0

abbrev bufTy : (tb : Table) → Fin (tcTables nBuf tb) → BufTy
  | .hbm, ⟨0, _⟩ => ⟨S16640x7168, .bf16⟩
  | .hbm, ⟨1, _⟩ => ⟨S4x64, .f32⟩
  | .hbm, ⟨2, _⟩ => ⟨S128, .f32⟩
  | .hbm, ⟨3, _⟩ => ⟨S16640x1024, .bf16⟩
  | .hbm, ⟨4, _⟩ => ⟨S13x1280x8x128, .bf16⟩
  | .hbm, ⟨5, _⟩ => ⟨S8x13x128x1280, .bf16⟩
  | .hbm, ⟨6, _⟩ => ⟨S1x128, .f32⟩
  | .hbm, ⟨7, _⟩ => ⟨S16640x1024, .bf16⟩
  | .local _ .vmem, ⟨0, _⟩ => ⟨S4x64, .f32⟩
  | .local _ .vmem, ⟨1, _⟩ => ⟨S1x128, .f32⟩
  | .local _ .vmem, ⟨2, _⟩ => ⟨S512x128, .bf16⟩
  | .local _ .vmem, ⟨3, _⟩ => ⟨S512x128, .bf16⟩
  | .local _ .vmem, ⟨4, _⟩ => ⟨S16640x128, .bf16⟩
  | .local _ .vmem, ⟨5, _⟩ => ⟨S16640x128, .bf16⟩
  | .local _ .vmem, ⟨6, _⟩ => ⟨S1x13x128x1280, .bf16⟩
  | .local _ .vmem, ⟨7, _⟩ => ⟨S1x13x128x1280, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S1280x1024, .f32⟩
  | .local _ .vmem, ⟨13, _⟩ => ⟨S1280x1024, .f32⟩
  | .local _ .vmem, ⟨14, _⟩ => ⟨S1x1024, .f32⟩
  | .local _ .vmem, ⟨15, _⟩ => ⟨S1x1024, .f32⟩
  | .local _ .vmem, ⟨16, _⟩ => ⟨S128x1024, .f32⟩
  | _, _ => ⟨S16640x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 32], ![false, false]⟩

def k0_mult1 : BitVec 32 :=
  let c0_i32 : BitVec 32 := 0#32
  c0_i32
@[reducible] def k0_t1_loop : Scf.Loop 32 :=
  let c0_i32_15 : BitVec 32 := 0#32
  let c6_i32 : BitVec 32 := 6#32
  let v29 : BitVec 32 := Scalar.addi c0_i32_15 c6_i32
  let c1_i32 : BitVec 32 := 1#32
  ⟨c0_i32_15, v29, c1_i32⟩
def k0_mult2 (k0_t1 : Fin k0_t1_loop.trips) : BitVec 32 :=
  let c2_i32 : BitVec 32 := 2#32
  let c0_i32_15 : BitVec 32 := 0#32
  let c1_i32 : BitVec 32 := 1#32
  let arg14 : BitVec 32 := Scf.iv c0_i32_15 c1_i32 k0_t1
  let v115 : BitVec 32 := Scalar.muli c2_i32 arg14
  let c1_i32_58 : BitVec 32 := 1#32
  let v116 : BitVec 32 := Scalar.addi v115 c1_i32_58
  let c1280_i32 : BitVec 32 := 1280#32
  let v117 : BitVec 32 := Scalar.muli v116 c1280_i32
  v117
def k0_off1 (k0_t1 : Fin k0_t1_loop.trips) (c1_i32_58 : BitVec 32) : Fin 2 → Nat :=
  let c2_i32 : BitVec 32 := 2#32
  let c0_i32_15 : BitVec 32 := 0#32
  let c1_i32 : BitVec 32 := 1#32
  let arg14 : BitVec 32 := Scf.iv c0_i32_15 c1_i32 k0_t1
  let v115 : BitVec 32 := Scalar.muli c2_i32 arg14
  let v116 : BitVec 32 := Scalar.addi v115 c1_i32_58
  let c1280_i32 : BitVec 32 := 1280#32
  let v117 : BitVec 32 := Scalar.muli v116 c1280_i32
  let v118 : BitVec 32 := v117
  let v119 : Index := Scalar.indexCast v118
  let c0_59 : Index := 0#32
  ![v119.toNat, 0]
def k0_off2 (k0_t1 : Fin k0_t1_loop.trips) : Fin 4 → Nat :=
  let c0_77 : Index := 0#32
  let c2_i32 : BitVec 32 := 2#32
  let c0_i32_15 : BitVec 32 := 0#32
  let c1_i32 : BitVec 32 := 1#32
  let arg14 : BitVec 32 := Scf.iv c0_i32_15 c1_i32 k0_t1
  let v115 : BitVec 32 := Scalar.muli c2_i32 arg14
  let v149 : Index := Scalar.indexCast v115
  let c0_78 : Index := 0#32
  let c0_79 : Index := 0#32
  ![0, v149.toNat, 0, 0]
def k0_mult3 (k0_t1 : Fin k0_t1_loop.trips) : BitVec 32 :=
  let c2_i32 : BitVec 32 := 2#32
  let c0_i32_15 : BitVec 32 := 0#32
  let c1_i32 : BitVec 32 := 1#32
  let arg14 : BitVec 32 := Scf.iv c0_i32_15 c1_i32 k0_t1
  let v115 : BitVec 32 := Scalar.muli c2_i32 arg14
  let c2_i32_83 : BitVec 32 := 2#32
  let v158 : BitVec 32 := Scalar.addi v115 c2_i32_83
  let c1280_i32_84 : BitVec 32 := 1280#32
  let v159 : BitVec 32 := Scalar.muli v158 c1280_i32_84
  v159
def k0_off3 (k0_t1 : Fin k0_t1_loop.trips) : Fin 4 → Nat :=
  let c0_104 : Index := 0#32
  let c2_i32 : BitVec 32 := 2#32
  let c0_i32_15 : BitVec 32 := 0#32
  let c1_i32 : BitVec 32 := 1#32
  let arg14 : BitVec 32 := Scf.iv c0_i32_15 c1_i32 k0_t1
  let v115 : BitVec 32 := Scalar.muli c2_i32 arg14
  let c1_i32_89 : BitVec 32 := 1#32
  let v167 : BitVec 32 := Scalar.addi v115 c1_i32_89
  let v192 : Index := Scalar.indexCast v167
  let c0_105 : Index := 0#32
  let c0_106 : Index := 0#32
  ![0, v192.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c24_i32 : BitVec 32 := 24#32
  let v1 : BitVec 32 := Scalar.addi c24_i32 arg0
  let c0_i32_0 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16640x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x13x128x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16640x7168 : Shape := ⟨2, ![16640, 7168]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S16640x1024 : Shape := ⟨2, ![16640, 1024]⟩
abbrev S16640x512 : Shape := ⟨2, ![16640, 512]⟩
abbrev S16384x1024 : Shape := ⟨2, ![16384, 1024]⟩
abbrev S16384x16x64 : Shape := ⟨3, ![16384, 16, 64]⟩
abbrev S16x16384x64 : Shape := ⟨3, ![16, 16384, 64]⟩
abbrev S8x2x16384x64 : Shape := ⟨4, ![8, 2, 16384, 64]⟩
abbrev S16640x16x64 : Shape := ⟨3, ![16640, 16, 64]⟩
abbrev S16x16640x64 : Shape := ⟨3, ![16, 16640, 64]⟩
abbrev S8x2x16640x64 : Shape := ⟨4, ![8, 2, 16640, 64]⟩
abbrev S8x1x16384x64 : Shape := ⟨4, ![8, 1, 16384, 64]⟩
abbrev S8x16384x64 : Shape := ⟨3, ![8, 16384, 64]⟩
abbrev S8x1x16640x64 : Shape := ⟨4, ![8, 1, 16640, 64]⟩
abbrev S8x16640x64 : Shape := ⟨3, ![8, 16640, 64]⟩
abbrev S16640x8x128 : Shape := ⟨3, ![16640, 8, 128]⟩
abbrev S8x16640x128 : Shape := ⟨3, ![8, 16640, 128]⟩
abbrev S8x16384x16640 : Shape := ⟨3, ![8, 16384, 16640]⟩
abbrev S8x16384 : Shape := ⟨2, ![8, 16384]⟩
abbrev S8x16384x1 : Shape := ⟨3, ![8, 16384, 1]⟩
abbrev S8x16384x128 : Shape := ⟨3, ![8, 16384, 128]⟩
abbrev S1x1x128 : Shape := ⟨3, ![1, 1, 128]⟩
abbrev S16384x8x128 : Shape := ⟨3, ![16384, 8, 128]⟩
abbrev S256x1024 : Shape := ⟨2, ![256, 1024]⟩

abbrev nBuf : Space → Nat
  | .hbm => 126
  | .vmem => 0
  | .smem => 0
  | _ => 0

abbrev bufTy : (tb : Table) → Fin (tcTables nBuf tb) → BufTy
  | .hbm, ⟨0, _⟩ => ⟨S16640x7168, .bf16⟩
  | .hbm, ⟨1, _⟩ => ⟨S4x64, .f32⟩
  | .hbm, ⟨2, _⟩ => ⟨S128, .f32⟩
  | .hbm, ⟨3, _⟩ => ⟨S1x64, .f32⟩
  | .hbm, ⟨4, _⟩ => ⟨S64, .f32⟩
  | .hbm, ⟨5, _⟩ => ⟨S1x64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16640x7168, .f32⟩
  | .hbm, ⟨23, _⟩ => ⟨S16640x1024, .f32⟩
  | .hbm, ⟨24, _⟩ => ⟨S16640x1024, .f32⟩
  | .hbm, ⟨25, _⟩ => ⟨S16640x1024, .f32⟩
  | .hbm, ⟨26, _⟩ => ⟨S16640x1024, .f32⟩
  | .hbm, ⟨27, _⟩ => ⟨S16640x512, .f32⟩
  | .hbm, ⟨28, _⟩ => ⟨S16640x512, .f32⟩
  | .hbm, ⟨29, _⟩ => ⟨S16640x1024, .f32⟩
  | .hbm, ⟨30, _⟩ => ⟨S16640x1024, .f32⟩
  | .hbm, ⟨31, _⟩ => ⟨S16384x1024, .f32⟩
  | .hbm, ⟨32, _⟩ => ⟨S16384x16x64, .f32⟩
  | .hbm, ⟨33, _⟩ => ⟨S16x16384x64, .f32⟩
  | .hbm, ⟨34, _⟩ => ⟨S8x2x16384x64, .f32⟩
  | .hbm, ⟨35, _⟩ => ⟨S16640x16x64, .f32⟩
  | .hbm, ⟨36, _⟩ => ⟨S16x16640x64, .f32⟩
  | .hbm, ⟨37, _⟩ => ⟨S8x2x16640x64, .f32⟩
  | .hbm, ⟨38, _⟩ => ⟨S8x1x16384x64, .f32⟩
  | .hbm, ⟨39, _⟩ => ⟨S8x16384x64, .f32⟩
  | .hbm, ⟨40, _⟩ => ⟨S8x1x16384x64, .f32⟩
  | .hbm, ⟨41, _⟩ => ⟨S8x16384x64, .f32⟩
  | .hbm, ⟨42, _⟩ => ⟨S8x1x16640x64, .f32⟩
  | .hbm, ⟨43, _⟩ => ⟨S8x16640x64, .f32⟩
  | .hbm, ⟨44, _⟩ => ⟨S8x1x16640x64, .f32⟩
  | .hbm, ⟨45, _⟩ => ⟨S8x16640x64, .f32⟩
  | .hbm, ⟨46, _⟩ => ⟨S16640x8x128, .f32⟩
  | .hbm, ⟨47, _⟩ => ⟨S8x16640x128, .f32⟩
  | .hbm, ⟨48, _⟩ => ⟨S_, .f32⟩
  | .hbm, ⟨49, _⟩ => ⟨S_, .f32⟩
  | .hbm, ⟨50, _⟩ => ⟨S8x16384x16640, .f32⟩
  | .hbm, ⟨51, _⟩ => ⟨S_, .f32⟩
  | .hbm, ⟨52, _⟩ => ⟨S8x16384x16640, .f32⟩
  | .hbm, ⟨53, _⟩ => ⟨S8x16384x16640, .f32⟩
  | .hbm, ⟨54, _⟩ => ⟨S8x16384x16640, .f32⟩
  | .hbm, ⟨55, _⟩ => ⟨S_, .f32⟩
  | .hbm, ⟨56, _⟩ => ⟨S8x16384x16640, .f32⟩
  | .hbm, ⟨57, _⟩ => ⟨S8x16384x16640, .f32⟩
  | .hbm, ⟨58, _⟩ => ⟨S_, .f32⟩
  | .hbm, ⟨59, _⟩ => ⟨S8x16384, .f32⟩
  | .hbm, ⟨60, _⟩ => ⟨S_, .f32⟩
  | .hbm, ⟨61, _⟩ => ⟨S8x16384, .f32⟩
  | .hbm, ⟨62, _⟩ => ⟨S8x16384, .f32⟩
  | .hbm, ⟨63, _⟩ => ⟨S8x16384x1, .f32⟩
  | .hbm, ⟨64, _⟩ => ⟨S8x16384x16640, .f32⟩
  | .hbm, ⟨65, _⟩ => ⟨S8x16384x16640, .f32⟩
  | .hbm, ⟨66, _⟩ => ⟨S8x16384x16640, .f32⟩
  | .hbm, ⟨67, _⟩ => ⟨S_, .f32⟩
  | .hbm, ⟨68, _⟩ => ⟨S8x16384, .f32⟩
  | .hbm, ⟨69, _⟩ => ⟨S8x16384x1, .f32⟩
  | .hbm, ⟨70, _⟩ => ⟨S8x16384x16640, .f32⟩
  | .hbm, ⟨71, _⟩ => ⟨S8x16384x16640, .f32⟩
  | .hbm, ⟨72, _⟩ => ⟨S_, .f32⟩
  | .hbm, ⟨73, _⟩ => ⟨S8x16384, .f32⟩
  | .hbm, ⟨74, _⟩ => ⟨S_, .f32⟩
  | .hbm, ⟨75, _⟩ => ⟨S8x16384, .f32⟩
  | .hbm, ⟨76, _⟩ => ⟨S8x16384, .f32⟩
  | .hbm, ⟨77, _⟩ => ⟨S8x16384x1, .f32⟩
  | .hbm, ⟨78, _⟩ => ⟨S8x16384x16640, .f32⟩
  | .hbm, ⟨79, _⟩ => ⟨S8x16384x16640, .f32⟩
  | .hbm, ⟨80, _⟩ => ⟨S8x16384x16640, .f32⟩
  | .hbm, ⟨81, _⟩ => ⟨S_, .f32⟩
  | .hbm, ⟨82, _⟩ => ⟨S8x16384, .f32⟩
  | .hbm, ⟨83, _⟩ => ⟨S8x16384x1, .f32⟩
  | .hbm, ⟨84, _⟩ => ⟨S8x16384x16640, .f32⟩
  | .hbm, ⟨85, _⟩ => ⟨S8x16384x16640, .f32⟩
  | .hbm, ⟨86, _⟩ => ⟨S8x16384x16640, .f32⟩
  | .hbm, ⟨87, _⟩ => ⟨S8x16384x16640, .f32⟩
  | .hbm, ⟨88, _⟩ => ⟨S8x16384x16640, .f32⟩
  | .hbm, ⟨89, _⟩ => ⟨S8x16384x128, .f32⟩
  | .hbm, ⟨90, _⟩ => ⟨S8x16384x128, .f32⟩
  | .hbm, ⟨91, _⟩ => ⟨S_, .f32⟩
  | .hbm, ⟨92, _⟩ => ⟨S8x16384, .f32⟩
  | .hbm, ⟨93, _⟩ => ⟨S8x16384x1, .f32⟩
  | .hbm, ⟨94, _⟩ => ⟨S_, .f32⟩
  | .hbm, ⟨95, _⟩ => ⟨S8x16384x1, .f32⟩
  | .hbm, ⟨96, _⟩ => ⟨S8x16384x1, .f32⟩
  | .hbm, ⟨97, _⟩ => ⟨S_, .f32⟩
  | .hbm, ⟨98, _⟩ => ⟨S8x16384x1, .f32⟩
  | .hbm, ⟨99, _⟩ => ⟨S8x16384x1, .f32⟩
  | .hbm, ⟨100, _⟩ => ⟨S8x16384x1, .f32⟩
  | .hbm, ⟨101, _⟩ => ⟨S8x16384x128, .f32⟩
  | .hbm, ⟨102, _⟩ => ⟨S8x16384x128, .f32⟩
  | .hbm, ⟨103, _⟩ => ⟨S1x1x128, .f32⟩
  | .hbm, ⟨104, _⟩ => ⟨S8x16384x128, .f32⟩
  | .hbm, ⟨105, _⟩ => ⟨S8x16384x128, .f32⟩
  | .hbm, ⟨106, _⟩ => ⟨S_, .f32⟩
  | .hbm, ⟨107, _⟩ => ⟨S8x16384x128, .f32⟩
  | .hbm, ⟨108, _⟩ => ⟨S8x16384x128, .f32⟩
  | .hbm, ⟨109, _⟩ => ⟨S16384x8x128, .f32⟩
  | .hbm, ⟨110, _⟩ => ⟨S16384x1024, .f32⟩
  | .hbm, ⟨111, _⟩ => ⟨S16384x1024, .f32⟩
  | .hbm, ⟨112, _⟩ => ⟨S16384x1024, .f32⟩
  | .hbm, ⟨113, _⟩ => ⟨S16384x1024, .f32⟩
  | .hbm, ⟨114, _⟩ => ⟨S_, .f32⟩
  | .hbm, ⟨115, _⟩ => ⟨S16384x1024, .f32⟩
  | .hbm, ⟨116, _⟩ => ⟨S16384x1024, .f32⟩
  | .hbm, ⟨117, _⟩ => ⟨S_, .f32⟩
  | .hbm, ⟨118, _⟩ => ⟨S16384x1024, .f32⟩
  | .hbm, ⟨119, _⟩ => ⟨S16384x1024, .f32⟩
  | .hbm, ⟨120, _⟩ => ⟨S16384x1024, .f32⟩
  | .hbm, ⟨121, _⟩ => ⟨S16384x1024, .f32⟩
  | .hbm, ⟨122, _⟩ => ⟨S_, .f32⟩
  | .hbm, ⟨123, _⟩ => ⟨S256x1024, .f32⟩
  | .hbm, ⟨124, _⟩ => ⟨S16640x1024, .f32⟩
  | .hbm, ⟨125, _⟩ => ⟨S16640x1024, .bf16⟩
  | _, _ => ⟨S16640x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_3 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_6 : Ref sig .tc := ⟨.hbm, 72, rfl⟩
abbrev main_v62 : Ref sig .tc := ⟨.hbm, 73, rfl⟩
abbrev main_cst_7 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_cst_8 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_9 : Ref sig .tc := ⟨.hbm, 91, rfl⟩
abbrev main_v78 : Ref sig .tc := ⟨.hbm, 92, rfl⟩
abbrev main_v79 : Ref sig .tc := ⟨.hbm, 93, rfl⟩
abbrev main_cst_10 : Ref sig .tc := ⟨.hbm, 94, rfl⟩
abbrev main_v80 : Ref sig .tc := ⟨.hbm, 95, rfl⟩
abbrev main_v81 : Ref sig .tc := ⟨.hbm, 96, rfl⟩
abbrev main_cst_11 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_12 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_call0_v0 : Ref sig .tc := ⟨.hbm, 112, rfl⟩
abbrev main_call0_v1 : Ref sig .tc := ⟨.hbm, 113, rfl⟩
abbrev main_call0_cst : Ref sig .tc := ⟨.hbm, 114, rfl⟩
abbrev main_call0_v2 : Ref sig .tc := ⟨.hbm, 115, rfl⟩
abbrev main_call0_v3 : Ref sig .tc := ⟨.hbm, 116, rfl⟩
abbrev main_call0_cst_0 : Ref sig .tc := ⟨.hbm, 117, rfl⟩
abbrev main_call0_v4 : Ref sig .tc := ⟨.hbm, 118, rfl⟩
abbrev main_call0_v5 : Ref sig .tc := ⟨.hbm, 119, rfl⟩
abbrev main_v95 : Ref sig .tc := ⟨.hbm, 120, rfl⟩
abbrev main_v96 : Ref sig .tc := ⟨.hbm, 121, rfl⟩
abbrev main_cst_13 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩

abbrev nD : Nat := 1
abbrev τ : Topo := Topo.v7x

variable {F : FTy → Type} [FloatOps F]
-- ==== Proof.GqaSweep.lean ====
module

public import proofs.«01_k».proof.Proof.Gen.KernelIdeal.Loops
public import Idealize.ShloMosaic.Lib.Pipeline.ValueKit
public import Idealize.ShloMosaic.Lib.VecWindow

/-! The sweep over the keys, as a function of vectors.

Between two trips of the counted loop the body carries four vectors: the scores of the chunk of
keys that comes next, the running maximum, the running sum of weights and the running weighted sum
of values.  This module says what one trip makes of them and shows that the lists of stores the loop
is known by leave exactly that in the scratch buffers. -/

@[expose] public section

set_option maxRecDepth 16384

noncomputable section

namespace Cert.Gqa

open Cert.KernelIdeal Cert.KernelIdeal.Gen
open Idealize.ShloMosaic Idealize.ShloMosaic.TcCoe Idealize.SL.Sem

variable {F : FTy → Type} [FloatOps F]

/-- What is carried from one chunk of keys to the next. -/
structure Carry (F : FTy → Type) where
  /-- the scores of the chunk that comes next, one row per key -/
  s : Vec F S1280x1024 .f32
  /-- the maximum so far, one entry per query -/
  m : Vec F S1x1024 .f32
  /-- the sum of the weights so far -/
  l : Vec F S1x1024 .f32
  /-- the weighted sum of the values so far -/
  a : Vec F S128x1024 .f32

/-- One trip: the chunk whose scores are at hand is taken in, then the following one, and the scores
    of the one after that are left for the next trip. -/
def trip (q : Vec F S1024x128 .bf16) (x1 : Vec F S16640x128 .bf16) (x2 : Vec F S1x13x128x1280 .bf16)
    (k : Fin k0_t1_loop.trips) (p : Carry F) : Carry F :=
  let s₁ := k0_pay2 q (View.ld x1 (Rect.unit (k0_off1 k 1#32) S1280x128.size (k0_off1_inb k 0)))
  let m₁ := k0_pay7 p.s p.m
  { s := k0_pay10 q (View.ld x1 (Rect.unit (k0_off1 k 2#32) S1280x128.size (k0_off1_inb k 1)))
    m := k0_pay21 (k0_pay11 s₁ m₁)
    l := k0_pay20 (k0_pay14 s₁ m₁ (k0_pay6 p.s p.m p.l))
    a := k0_pay22 (k0_pay12 s₁ m₁) (k0_pay13 s₁ m₁)
      (k0_pay9 (k0_pay5 p.s p.m) (k0_pay8 p.s p.m p.a)
        (View.ld x2 (Rect.unit (k0_off2 k) S1x1x128x1280.size (k0_off2_inb k))))
      (View.ld x2 (Rect.unit (k0_off3 k) S1x1x128x1280.size (k0_off3_inb k))) }

/-- The first `n` trips. -/
def sweep (q : Vec F S1024x128 .bf16) (x1 : Vec F S16640x128 .bf16) (x2 : Vec F S1x13x128x1280 .bf16)
    (p : Carry F) : ℕ → Carry F
  | 0 => p
  | n + 1 => if h : n < k0_t1_loop.trips then trip q x1 x2 ⟨n, h⟩ (sweep q x1 x2 p n) else sweep q x1 x2 p n

/-- What the loop is entered with: the scores of the first chunk, no maximum yet and empty sums. -/
def start (q : Vec F S1024x128 .bf16) (x1 : Vec F S16640x128 .bf16) : Carry F where
  s := k0_pay10 q (View.ld x1 (Rect.unit (s := S16640x128) ![0, 0] S1280x128.size inb_S16640x128_S1280x128_0_0))
  m := k0_pay16
  l := k0_pay17
  a := k0_pay18

/-- What the loop leaves, for any queries. -/
def sweptOf (q : Vec F S1024x128 .bf16) (x1 : Vec F S16640x128 .bf16) (x2 : Vec F S1x13x128x1280 .bf16) : Carry F :=
  sweep q x1 x2 (start q x1) k0_t1_loop.trips

/-- The weighted sum of the values, the last chunk taken in. -/
def totalOf (q : Vec F S1024x128 .bf16) (x1 : Vec F S16640x128 .bf16) (x2 : Vec F S1x13x128x1280 .bf16) : Vec F S128x1024 .f32 :=
  k0_pay28 (sweptOf q x1 x2).s (sweptOf q x1 x2).m (sweptOf q x1 x2).a
    (View.ld x2 (Rect.unit (s := S1x13x128x1280) ![0, 12, 0, 0] S1x1x128x1280.size inb_S1x13x128x1280_S1x1x128x1280_0_12_0_0))

/-- The sum of the weights, the last chunk taken in. -/
def weightOf (q : Vec F S1024x128 .bf16) (x1 : Vec F S16640x128 .bf16) (x2 : Vec F S1x13x128x1280 .bf16) : Vec F S1x1024 .f32 :=
  k0_pay26 (sweptOf q x1 x2).s (sweptOf q x1 x2).m (sweptOf q x1 x2).l

section Stores

variable (c : Dev nD) (i : grid0.Coords)
  (arg2 : Memref sig .tc .vmem S256x512 .bf16) (harg2 : arg2.IsWhole)
  (arg3 : Memref sig .tc .vmem S16640x128 .bf16) (harg3 : arg3.IsWhole)
  (arg4 : Memref sig .tc .vmem S1x13x128x1280 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S1280x1024 .f32) (harg7 : arg7.IsWhole)
  (arg8 : Memref sig .tc .vmem S1280x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S128x1024 .f32) (harg11 : arg11.IsWhole)
  (v0 v1 v2 v3 : Vec F S256x128 .bf16)
  (x1 : Vec F S16640x128 .bf16) (x2 : Vec F S1x13x128x1280 .bf16)

/-- What the four scratch buffers hold, read. -/
abbrev held (f7 : BufTy.Contents (Elt F) arg7.view.ty) (f9 : BufTy.Contents (Elt F) arg9.view.ty)
    (f10 : BufTy.Contents (Elt F) arg10.view.ty) (f11 : BufTy.Contents (Elt F) arg11.view.ty) : Carry F :=
  ⟨arg7.view.read (Elt F) f7, arg9.view.read (Elt F) f9, arg10.view.read (Elt F) f10, arg11.view.read (Elt F) f11⟩

/-- The pieces one trip stores into the five scratch buffers, at the contents it finds. -/
abbrev stores (k : Fin k0_t1_loop.trips) (f7 : BufTy.Contents (Elt F) arg7.view.ty) (f8 : BufTy.Contents (Elt F) arg8.view.ty)
    (f9 : BufTy.Contents (Elt F) arg9.view.ty) (f10 : BufTy.Contents (Elt F) arg10.view.ty)
    (f11 : BufTy.Contents (Elt F) arg11.view.ty) :=
  tripL_k0_t1 (F := F) .none c none i arg2 harg2 arg3 harg3 arg4 harg4 arg5 harg5 arg6 harg6 arg7 harg7 arg8 harg8
    arg9 harg9 arg10 harg10 arg11 harg11 v0 v1 v2 v3 (harg3.unread x1) (harg4.unread x2) k f7 f8 f9 f10 f11

/-- The pieces the first `n` trips store, over the contents the loop is entered with. -/
abbrev allStores (f7 : BufTy.Contents (Elt F) arg7.view.ty) (f8 : BufTy.Contents (Elt F) arg8.view.ty)
    (f9 : BufTy.Contents (Elt F) arg9.view.ty) (f10 : BufTy.Contents (Elt F) arg10.view.ty)
    (f11 : BufTy.Contents (Elt F) arg11.view.ty) (n : ℕ) :=
  pb_k0_t1 (F := F) .none c none i arg2 harg2 arg3 harg3 arg4 harg4 arg5 harg5 arg6 harg6 arg7 harg7 arg8 harg8
    arg9 harg9 arg10 harg10 arg11 harg11 v0 v1 v2 v3 (harg3.unread x1) (harg4.unread x2) f7 f8 f9 f10 f11 n

/-- One trip's stores leave what `trip` says. -/
theorem held_stores (k : Fin k0_t1_loop.trips) (f7 : BufTy.Contents (Elt F) arg7.view.ty)
    (f8 : BufTy.Contents (Elt F) arg8.view.ty) (f9 : BufTy.Contents (Elt F) arg9.view.ty)
    (f10 : BufTy.Contents (Elt F) arg10.view.ty) (f11 : BufTy.Contents (Elt F) arg11.view.ty) :
    let L := stores c i arg2 harg2 arg3 harg3 arg4 harg4 arg5 harg5 arg6 harg6 arg7 harg7 arg8 harg8 arg9 harg9
      arg10 harg10 arg11 harg11 v0 v1 v2 v3 x1 x2 k f7 f8 f9 f10 f11
    held arg7 arg9 arg10 arg11 (arg7.view.writes (Elt F) f7 L.1) (arg9.view.writes (Elt F) f9 L.2.2.1)
        (arg10.view.writes (Elt F) f10 L.2.2.2.1) (arg11.view.writes (Elt F) f11 L.2.2.2.2)
      = trip (k0_pay15 v0 v1 v2 v3) x1 x2 k (held arg7 arg9 arg10 arg11 f7 f9 f10 f11) := by
  dsimp only [stores, tripL_k0_t1, held, trip]
  unfold trip_k0_t1
  rw [Carry.mk.injEq]
  refine ⟨?_, ?_, ?_, ?_⟩
  · frame_out [View.read_writes_full]
    exact View.read_writes_full _ _ _ _ _
  · frame_out [View.read_writes_full]
    exact View.read_writes_full _ _ _ _ _
  · frame_out [View.read_writes_full]
    exact View.read_writes_full _ _ _ _ _
  · frame_out [View.read_writes_full]
    exact View.read_writes_full _ _ _ _ _

/-- The stores of the first `n` trips leave what `sweep` says. -/
theorem held_allStores (f7 : BufTy.Contents (Elt F) arg7.view.ty) (f8 : BufTy.Contents (Elt F) arg8.view.ty)
    (f9 : BufTy.Contents (Elt F) arg9.view.ty) (f10 : BufTy.Contents (Elt F) arg10.view.ty)
    (f11 : BufTy.Contents (Elt F) arg11.view.ty) (n : ℕ) (hn : n ≤ k0_t1_loop.trips) :
    let L := allStores c i arg2 harg2 arg3 harg3 arg4 harg4 arg5 harg5 arg6 harg6 arg7 harg7 arg8 harg8 arg9 harg9
      arg10 harg10 arg11 harg11 v0 v1 v2 v3 x1 x2 f7 f8 f9 f10 f11 n
    held arg7 arg9 arg10 arg11 (arg7.view.writes (Elt F) f7 L.1) (arg9.view.writes (Elt F) f9 L.2.2.1)
        (arg10.view.writes (Elt F) f10 L.2.2.2.1) (arg11.view.writes (Elt F) f11 L.2.2.2.2)
      = sweep (k0_pay15 v0 v1 v2 v3) x1 x2 (held arg7 arg9 arg10 arg11 f7 f9 f10 f11) n := by
  induction n with
  | zero => rfl
  | succ n ih =>
    have h := pb_k0_t1_succ (F := F) .none c none i arg2 harg2 arg3 harg3 arg4 harg4 arg5 harg5 arg6 harg6 arg7 harg7 arg8
      harg8 arg9 harg9 arg10 harg10 arg11 harg11 v0 v1 v2 v3 (harg3.unread x1) (harg4.unread x2) f7 f8 f9 f10 f11 ⟨n, hn⟩
    dsimp only [allStores] at ih ⊢
    rw [h]
    dsimp only
    rw [View.writes_append, View.writes_append, View.writes_append, View.writes_append]
    refine (held_stores c i arg2 harg2 arg3 harg3 arg4 harg4 arg5 harg5 arg6 harg6 arg7 harg7 arg8 harg8 arg9 harg9
      arg10 harg10 arg11 harg11 v0 v1 v2 v3 x1 x2 ⟨n, hn⟩ _ _ _ _ _).trans ?_
    rw [sweep]
    split
    · exact congrArg _ (ih (Nat.le_of_succ_le hn))
    · exact absurd hn ‹_›

end Stores

end Cert.Gqa

end
-- ==== Proof.GqaRun.lean ====
module

public import proofs.«01_k».proof.Proof.GqaSweep
public import proofs.«01_k».proof.Proof.Gen.KernelIdeal.Frame.Runs
public import Idealize.ShloMosaic.Lib.Claim

/-! The body of the attention, run once.

From its four input blocks the body computes the output block `out`: the queries of the four heads
laid one under another, the sweep over the keys, the last chunk, and per head the quotient times the gate. -/

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The four heads' columns of a block of 512 columns. -/
abbrev head0 : Rect S256x512 := Rect.unit (s := S256x512) ![0, 0] S256x128.size inb_S256x512_S256x128_0_0
abbrev head1 : Rect S256x512 := Rect.unit (s := S256x512) ![0, 128] S256x128.size inb_S256x512_S256x128_0_128
abbrev head2 : Rect S256x512 := Rect.unit (s := S256x512) ![0, 256] S256x128.size inb_S256x512_S256x128_0_256
abbrev head3 : Rect S256x512 := Rect.unit (s := S256x512) ![0, 384] S256x128.size inb_S256x512_S256x128_0_384

variable (x0 : Vec F S256x512 .bf16) (x1 : Vec F S16640x128 .bf16) (x2 : Vec F S1x13x128x1280 .bf16)
  (x3 : Vec F S256x512 .bf16)

/-- The queries of the four heads, one under another. -/
def queries : Vec F S1024x128 .bf16 :=
  k0_pay15 (View.ld x0 head0) (View.ld x0 head1) (View.ld x0 head2) (View.ld x0 head3)

/-- What the loop is entered with: the scores of the first chunk, no maximum yet and empty sums. -/
def entry : Carry F where
  s := k0_pay19 (View.ld x0 head0) (View.ld x0 head1) (View.ld x0 head2) (View.ld x0 head3)
    (View.ld x1 (Rect.unit (s := S16640x128) ![0, 0] S1280x128.size inb_S16640x128_S1280x128_0_0))
  m := k0_pay16
  l := k0_pay17
  a := k0_pay18

/-- What the loop leaves. -/
def swept : Carry F := sweep (queries x0) x1 x2 (entry x0 x1) k0_t1_loop.trips

/-- The weighted sum of the values, the last chunk taken in. -/
def total : Vec F S128x1024 .f32 :=
  k0_pay28 (swept x0 x1 x2).s (swept x0 x1 x2).m (swept x0 x1 x2).a
    (View.ld x2 (Rect.unit (s := S1x13x128x1280) ![0, 12, 0, 0] S1x1x128x1280.size inb_S1x13x128x1280_S1x1x128x1280_0_12_0_0))

/-- The sum of the weights, the last chunk taken in. -/
def weight : Vec F S1x1024 .f32 := k0_pay26 (swept x0 x1 x2).s (swept x0 x1 x2).m (swept x0 x1 x2).l

/-- The four stores into the output block, the last first, from the two sums and the gate's block. -/
abbrev piecesOf (A : Vec F S128x1024 .f32) (l : Vec F S1x1024 .f32) (g : Vec F S256x512 .bf16) :
    List (View.Piece (Elt F) S256x512 .bf16) :=
  [⟨head3, k0_pay1 (k0_pay29 A l) (View.ld g head3)⟩, ⟨head2, k0_pay32 A l (View.ld g head2)⟩,
   ⟨head1, k0_pay31 A l (View.ld g head1)⟩, ⟨head0, k0_pay30 A l (View.ld g head0)⟩]

/-- The four stores of the body. -/
def pieces : List (View.Piece (Elt F) S256x512 .bf16) := piecesOf (total x0 x1 x2) (weight x0 x1 x2) x3

/-- The four stores fill the block. -/
theorem pieces_cover (y : S256x512.Idx) : ∃ pc ∈ pieces x0 x1 x2 x3, y ∈ pc.1.set :=
  View.cover_of_tiledL (pieces x0 x1 x2 x3) S256x128.size (by sl_kernel_rfl) y

/-- The output block. -/
def out : Vec F S256x512 .bf16 := VO0_4.read (Elt F) (VO0_4.writes (Elt F) VO0_4.junk (pieces x0 x1 x2 x3))

/-- What the four scratch buffers hold after the loop, whatever the fifth holds before it. -/
theorem held_loop (c : Dev nD) (i : grid0.Coords) (arg2 : Memref sig .tc .vmem S256x512 .bf16) (harg2 : arg2.IsWhole) (arg3 : Memref sig .tc .vmem S16640x128 .bf16) (harg3 : arg3.IsWhole) (arg4 : Memref sig .tc .vmem S1x13x128x1280 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1280x1024 .f32) (harg7 : arg7.IsWhole) (arg8 : Memref sig .tc .vmem S1280x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole)
    (f8 : BufTy.Contents (Elt F) arg8.view.ty) :
    let I7 : List (View.Piece (Elt F) S1280x1024 .f32) := [⟨Rect.unit (s := S1280x1024) ![0, 0] S1280x1024.size inb_S1280x1024_S1280x1024_0_0, (entry x0 x1).s⟩]
    let I9 : List (View.Piece (Elt F) S1x1024 .f32) := [⟨Rect.unit (s := S1x1024) ![0, 0] S1x1024.size inb_S1x1024_S1x1024_0_0, (entry x0 x1).m⟩]
    let I10 : List (View.Piece (Elt F) S1x1024 .f32) := [⟨Rect.unit (s := S1x1024) ![0, 0] S1x1024.size inb_S1x1024_S1x1024_0_0, (entry x0 x1).l⟩]
    let I11 : List (View.Piece (Elt F) S128x1024 .f32) := [⟨Rect.unit (s := S128x1024) ![0, 0] S128x1024.size inb_S128x1024_S128x1024_0_0, (entry x0 x1).a⟩]
    let L := allStores c i arg2 harg2 arg3 harg3 arg4 harg4 arg5 harg5 arg6 harg6 arg7 harg7 arg8 harg8 arg9 harg9
      arg10 harg10 arg11 harg11 (View.ld x0 head0) (View.ld x0 head1) (View.ld x0 head2) (View.ld x0 head3) x1 x2
      (arg7.view.writes (Elt F) arg7.view.junk I7) f8 (arg9.view.writes (Elt F) arg9.view.junk I9)
      (arg10.view.writes (Elt F) arg10.view.junk I10) (arg11.view.writes (Elt F) arg11.view.junk I11) k0_t1_loop.trips
    held arg7 arg9 arg10 arg11 (arg7.view.writes (Elt F) arg7.view.junk (L.1 ++ I7))
        (arg9.view.writes (Elt F) arg9.view.junk (L.2.2.1 ++ I9))
        (arg10.view.writes (Elt F) arg10.view.junk (L.2.2.2.1 ++ I10))
        (arg11.view.writes (Elt F) arg11.view.junk (L.2.2.2.2 ++ I11))
      = swept x0 x1 x2 := by
  intro I7 I9 I10 I11 L
  rw [View.writes_append, View.writes_append, View.writes_append, View.writes_append]
  refine (held_allStores c i arg2 harg2 arg3 harg3 arg4 harg4 arg5 harg5 arg6 harg6 arg7 harg7 arg8 harg8 arg9 harg9
    arg10 harg10 arg11 harg11 _ _ _ _ x1 x2 _ f8 _ _ _ _ le_rfl).trans ?_
  refine congrArg (fun p => sweep (queries x0) x1 x2 p k0_t1_loop.trips) ?_
  rw [Carry.mk.injEq]
  exact ⟨View.read_writes_full _ _ _ _ _, View.read_writes_full _ _ _ _ _, View.read_writes_full _ _ _ _ _,
    View.read_writes_full _ _ _ _ _⟩

set_option maxHeartbeats 4000000 in
/-- The body's triple: on whole staging buffers holding the four blocks it leaves them as they were
    and the output's buffer at `out`. -/
theorem body_run (c : Dev nD) (i : grid0.Coords) (arg2 : Memref sig .tc .vmem S256x512 .bf16) (harg2 : arg2.IsWhole) (arg3 : Memref sig .tc .vmem S16640x128 .bf16) (harg3 : arg3.IsWhole) (arg4 : Memref sig .tc .vmem S1x13x128x1280 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1280x1024 .f32) (harg7 : arg7.IsWhole) (arg8 : Memref sig .tc .vmem S1280x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S128x1024 .f32) (harg11 : arg11.IsWhole)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out x0 x1 x2 x3)
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_gqa_attention i arg2 harg2 arg3 harg3 arg4 harg4 arg5 harg5 arg6 harg6 arg7 harg7 arg8 harg8 arg9 harg9 arg10 harg10 arg11 harg11) K := by
  simp only [cc0_gqa_attention_eq_skeleton]; unfold cc0_gqa_attention_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine Eq.trans (congrArg (fun L => arg6.view.read (Elt F) (arg6.view.writes (Elt F) _ L)) ?_)
      (View.read_writes_of_cover _ _ _ _ _ (pieces_cover x0 x1 x2 x3))
    frame_out
    have h := held_loop x0 x1 x2 c i arg2 harg2 arg3 harg3 arg4 harg4 arg5 harg5 arg6 harg6 arg7 harg7 arg8 harg8 arg9 harg9 arg10 harg10 arg11 harg11 fs1
    have hs := (View.readAt_full arg7.view _ inb_S1280x1024_S1280x1024_0_0).trans (congrArg Carry.s h)
    have hm := (View.readAt_full arg9.view _ inb_S1x1024_S1x1024_0_0).trans (congrArg Carry.m h)
    have hl := (View.readAt_full arg10.view _ inb_S1x1024_S1x1024_0_0).trans (congrArg Carry.l h)
    have ha := (View.readAt_full arg11.view _ inb_S128x1024_S128x1024_0_0).trans (congrArg Carry.a h)
    refine congrArg₂ (fun A l => piecesOf A l x3) ?_ ?_
    · refine Eq.trans (congrArg (fun s => k0_pay28 s _ _ _) hs) ?_
      refine Eq.trans (congrArg (fun s => k0_pay28 _ s _ _) hm) ?_
      exact congrArg (fun s => k0_pay28 _ _ s _) ha
    · refine Eq.trans (congrArg (fun s => k0_pay26 s _ _) hs) ?_
      refine Eq.trans (congrArg (fun s => k0_pay26 _ s _) hm) ?_
      exact congrArg (fun s => k0_pay26 _ _ s) hl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.Gqa

end
-- ==== Proof.GqaFrame.lean ====
module

public import proofs.«01_k».proof.Proof.GqaRun

/-! The attention's launch.

The body's triple holds at every point of the grid with the blocks the pipeline brings, so the whole
call ends, its argument is as it was, every counter is at zero, and the result's array is what the
library makes of the blocks `out`. -/

@[expose] public section

set_option maxRecDepth 16384

noncomputable section

namespace Cert.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block of grid point `t`. -/
def outAt (c : Dev nD) (t : Fin cfg0.N) : Vec F S256x512 .bf16 :=
  out (iblk m c 0 t) (iblk m c 1 t) (iblk m c 2 t) (iblk m c 3 t)

/-- The pipeline's data: every input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_g (c : Dev nD) (t : Fin cfg0.N) : (dats m 0 c).after 3 t = iblk m c 3 t := by dsimp only [dats]
theorem after_o (c : Dev nD) (t : Fin cfg0.N) : (dats m 0 c).after 4 t = outAt m c t := by dsimp only [dats]

theorem before_q (c : Dev nD) (t : Fin cfg0.N) (d) : (dats m 0 c).before 0 t d = iblk m c 0 t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d
theorem before_g (c : Dev nD) (t : Fin cfg0.N) (d) : (dats m 0 c).before 3 t d = iblk m c 3 t :=
  before0_3_of m (dats m 0 c) (A_eq m c 3) (after_g m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it gives back. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at a point of the grid. -/
theorem sound (c : Dev nD) (t : Fin cfg0.N) :
    pre m c t ⊢ wp frame (wpE (defs₀ (F := F)) Variants.none c none) Set.univ (bodyAt0 t) (fun _ => post m c t) := by
  unfold pre post bodyAt0
  simp only [before_q, before_k, before_v, before_g]
  rw [show (dats m 0 c).Φ t.succ = (dats m 0 c).Φ t.castSucc from rfl,
    show (dats m 0 c).owesAt () t.succ = (dats m 0 c).owesAt () t.castSucc from rfl,
    after_q, after_k, after_v, after_g, after_o]
  rw [show (dats m 0 c).Φ t.castSucc = Pipeline.ΦA spec0 c from rfl, PhiA0_eq]
  unfold outAt
  iintro ⟨⟨⟨S0, S1, S2, S3, S4⟩, Hg⟩, Ho, ⟨%_, B0⟩, ⟨%_, B1⟩, ⟨%_, B2⟩, ⟨%_, B3⟩, ⟨%_, B4⟩⟩
  iapply (body_run (iblk m c 0 t) (iblk m c 1 t) (iblk m c 2 t) (iblk m c 3 t) c (grid0.coords t)
    _ _ _ _ _ _ _ _ _ _ _ _ _ _ _ _ _ _ _ _ Set.univ _)
  isplitl [B0]; · iexact B0
  isplitl [B1]; · iexact B1
  isplitl [B2]; · iexact B2
  isplitl [B3]; · iexact B3
  isplitl [B4]; · iexists _; iexact B4
  isplitl [S0]; · iexact S0
  isplitl [S1]; · iexact S1
  isplitl [S2]; · iexact S2
  isplitl [S3]; · iexact S3
  isplitl [S4]; · iexact S4
  iintro ⟨B0, B1, B2, B3, B4, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [B0]; · iexact B0
  isplitl [B1]; · iexact B1
  isplitl [B2]; · iexact B2
  isplitl [B3]; · iexact B3
  iexact B4

/-- The library's obligation. -/
theorem obligation (c : Dev nD) : BodyObligation (dats (F := F) m 0 c) (defs₀ (F := F)) Variants.none () Set.univ := fun t => by
  rw [bigSep_W0, bigSep_W0]
  rw [show defs₀ (F := F) .tc cfg0.body (cfg0.bodyArgs t (cfg0.slots t)) = bodyAt0 t by unfold defs₀; rw [Defs.onTc_tc]]
  exact triple_restated (sound m c t) rfl .rfl fun _ => .rfl

set_option backward.isDefEq.respectTransparency.types false in
/-- The launch. -/
theorem launch : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The whole call: its argument is as it was, the counters are at zero, and the result's array is
    what the output blocks make it. -/
theorem run : θ_run defs (onTc (τ := τ) (main (F := F))) ⟨m, fun _ => 0, ρ⟩ (fun r =>
    (∀ c : Dev nD, r.2.mem ((c.tc : Thread nD τ).loc main_v3) = (dats m 0 c).arrAt 4 cfg0.N
      ∧ r.2.mem ((c.tc : Thread nD τ).loc main_arg0) = m ((c.tc : Thread nD τ).loc main_arg0))
    ∧ r.2.sem = fun _ => 0) := by
  refine (θ_run defs _ _).mono (fun r h => ⟨fun c => ⟨(h.1 c).1 4, ?_⟩, h.2⟩) (launch m ρ)
  exact ((h.1 c).1 3).trans (((dats m 0 c).arrAt_in 3 rfl _).trans ((A_eq m c 3).trans (V_main_arg0 m c)))

end Cert.Gqa

end
-- ==== Proof.Online.lean ====
module

public import Idealize.ShloMosaic.PureOps.Ideal

/-! Softmax in one pass, over the reals.

A key `k` has a score `σ k` and a value `w k`.  The quotient `att` of `∑ w k * 2 ^ σ k` by
`∑ 2 ^ σ k` does not change when one number is taken off every score, so the two sums may be kept
relative to a running maximum and rescaled whenever that maximum moves.  This is the idea of the
kernel; nothing here speaks of the kernel. -/

@[expose] public section

noncomputable section

namespace Cert.Online

open Idealize.ShloMosaic

/-- A sum of reals, among the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The maximum of finitely many reals, at least one, is a real. -/
theorem fold_max_coe {B : ℕ} (hB : 0 < B) (f : Fin B → ℝ) :
    ∃ M : ℝ, Finset.univ.fold max (⊥ : EReal) (fun k => (f k : EReal)) = M := by
  have h : (Finset.univ : Finset (Fin B)).Nonempty := ⟨⟨0, hB⟩, Finset.mem_univ _⟩
  obtain ⟨k, -, hk⟩ := Finset.exists_mem_eq_sup Finset.univ h (fun k => (f k : EReal))
  exact ⟨f k, hk⟩

theorem coe_max (a b : ℝ) : ((max a b : ℝ) : EReal) = max (a : EReal) (b : EReal) :=
  EReal.coe_strictMono.monotone.map_max

/-- Base two: a difference of exponents. -/
theorem two_rpow_mul (a b : ℝ) : (2 : ℝ) ^ a * (2 : ℝ) ^ b = (2 : ℝ) ^ (a + b) :=
  (Real.rpow_add two_pos a b).symm

/-- `a` is the sum over the first `n` keys of `w k * 2 ^ (σ k - m)`; before the first key the number
    taken off is minus infinity and the sum empty. -/
def Held (σ w : ℕ → ℝ) (n : ℕ) (m a : EReal) : Prop :=
  (n = 0 ∧ m = ⊥ ∧ a = 0) ∨
    (0 < n ∧ ∃ μ : ℝ, m = μ ∧ a = ((∑ k ∈ Finset.range n, w k * (2 : ℝ) ^ (σ k - μ) : ℝ) : EReal))

theorem held_zero (σ w : ℕ → ℝ) : Held σ w 0 ⊥ 0 := .inl ⟨rfl, rfl, rfl⟩

/-- One chunk's contribution. -/
theorem chunk_sum {B : ℕ} (σ w : ℕ → ℝ) (n : ℕ) (μ : ℝ) (T V : Fin B → EReal)
    (hT : ∀ k, T k = (σ (n + k) : EReal)) (hV : ∀ k, V k = (w (n + k) : EReal)) :
    ∑ k, V k * Ideal.exp2 (T k - μ)
      = ((∑ k ∈ Finset.range B, w (n + k) * (2 : ℝ) ^ (σ (n + k) - μ) : ℝ) : EReal) := by
  rw [Finset.sum_range, coe_sum]
  refine Finset.sum_congr rfl fun k _ => ?_
  rw [hT, hV, ← EReal.coe_sub, Ideal.exp2_coe, ← EReal.coe_mul]
  rfl

/-- Taking in a chunk: the maximum moves, the sum so far is rescaled, the chunk's own sum is added. -/
theorem Held.step {B : ℕ} (hB : 0 < B) {σ w : ℕ → ℝ} {n : ℕ} {m a : EReal} (h : Held σ w n m a) (T V : Fin B → EReal)
    (hT : ∀ k, T k = (σ (n + k) : EReal)) (hV : ∀ k, V k = (w (n + k) : EReal)) :
    Held σ w (n + B) (max m (Finset.univ.fold max ⊥ T))
      (Ideal.exp2 (m - max m (Finset.univ.fold max ⊥ T)) * a
        + ∑ k, V k * Ideal.exp2 (T k - max m (Finset.univ.fold max ⊥ T))) := by
  obtain ⟨M, hM⟩ := fold_max_coe hB fun k => σ (n + k)
  rw [show T = fun k : Fin B => (σ (n + k) : EReal) from funext hT, hM, ← show T = fun k : Fin B => (σ (n + k) : EReal) from funext hT]
  refine .inr ⟨by omega, ?_⟩
  rcases h with ⟨rfl, rfl, rfl⟩ | ⟨hn, μ, rfl, rfl⟩
  · refine ⟨M, by simp, ?_⟩
    rw [max_eq_right bot_le, chunk_sum σ w 0 M T V hT hV]
    simp
  · refine ⟨max μ M, (coe_max μ M).symm, ?_⟩
    rw [← coe_max, chunk_sum σ w n (max μ M) T V hT hV, ← EReal.coe_sub, Ideal.exp2_coe, ← EReal.coe_mul,
      ← EReal.coe_add, Finset.sum_range_add, Finset.mul_sum]
    refine congrArg (fun r : ℝ => (r : EReal)) (congrArg (· + _) (Finset.sum_congr rfl fun k _ => ?_))
    rw [mul_left_comm]
    refine congrArg (w k * ·) ((two_rpow_mul _ _).trans (congrArg _ ?_))
    ring

/-- Attention of one query: the values weighted by `2 ^ σ`. -/
def att (σ w : ℕ → ℝ) (N : ℕ) : ℝ :=
  (∑ k ∈ Finset.range N, w k * (2 : ℝ) ^ σ k) * (1 / ∑ k ∈ Finset.range N, (2 : ℝ) ^ σ k)

/-- Taking one number off every score changes nothing. -/
theorem att_shift (σ w : ℕ → ℝ) (N : ℕ) (μ : ℝ) :
    (∑ k ∈ Finset.range N, w k * (2 : ℝ) ^ (σ k - μ)) * (1 / ∑ k ∈ Finset.range N, (2 : ℝ) ^ (σ k - μ)) = att σ w N := by
  have h : ∀ v : ℕ → ℝ, ∑ k ∈ Finset.range N, v k * (2 : ℝ) ^ (σ k - μ)
      = (2 : ℝ) ^ (-μ) * ∑ k ∈ Finset.range N, v k * (2 : ℝ) ^ σ k := fun v => by
    rw [Finset.mul_sum]
    refine Finset.sum_congr rfl fun k _ => ?_
    rw [mul_left_comm, two_rpow_mul]
    congr 2; ring
  have h1 := h fun _ => 1
  simp only [one_mul] at h1
  have hp : (2 : ℝ) ^ (-μ) ≠ 0 := (Real.rpow_pos_of_pos two_pos _).ne'
  rw [h w, h1, att, one_div, one_div, mul_inv]
  rw [mul_mul_mul_comm, mul_inv_cancel₀ hp, one_mul]

/-- Sums of powers of two are positive. -/
theorem weights_pos (σ : ℕ → ℝ) (N : ℕ) (hN : 0 < N) (μ : ℝ) : 0 < ∑ k ∈ Finset.range N, (2 : ℝ) ^ (σ k - μ) :=
  Finset.sum_pos (fun _ _ => Real.rpow_pos_of_pos two_pos _) ⟨0, Finset.mem_range.2 hN⟩

/-- After the last key the quotient of the two sums is the attention. -/
theorem Held.div {σ w : ℕ → ℝ} {N : ℕ} (hN : 0 < N) {m a l : EReal} (ha : Held σ w N m a) (hl : Held σ (fun _ => 1) N m l) :
    Ideal.div a l = (att σ w N : EReal) := by
  rcases ha with ⟨h, -⟩ | ⟨-, μ, rfl, rfl⟩
  · omega
  rcases hl with ⟨h, -⟩ | ⟨-, ν, hν, rfl⟩
  · omega
  obtain rfl := EReal.coe_injective hν
  simp only [one_mul]
  rw [Ideal.div_coe (weights_pos σ N hN μ).ne', ← EReal.coe_mul, att_shift]

end Cert.Online

end
-- ==== Proof.GqaPayload.lean ====
module

public import proofs.«01_k».proof.Proof.GqaRun
public import proofs.«01_k».proof.Proof.Online
public import Idealize.ShloMosaic.PureOps.Ideal
public import Idealize.ShloMosaic.Lib.Pipeline.ValueKit
public import Idealize.ShloMosaic.Adequacy
public import Idealize.ShloMosaic.Init

/-! The body's steps read at one entry, floats being extended reals. -/

@[expose] public section

set_option maxRecDepth 16384

noncomputable section

namespace Cert.Gqa

open Cert.KernelIdeal Cert.KernelIdeal.Gen Cert.Online
open Idealize.ShloMosaic Idealize.ShloMosaic.TcCoe Idealize.SL.Sem

theorem neg_inf : Ideal.ofBits FTy.f32 4286578688#32 = ⊥ := by simp [Ideal.ofBits, Ideal.ieee]

/-- A chunk of keys, read. -/
theorem keys_at (x1 : Vec Ideal S16640x128 .bf16) (off : Fin 2 → ℕ) (b : ℕ) (h : off = ![b, 0])
    (inb : ∀ a, off a + S1280x128.size a ≤ S16640x128.size a) (k : Fin 1280) (x : Fin 128) (hb : b + 1280 ≤ 16640) :
    View.ld x1 (Rect.unit (s := S16640x128) off S1280x128.size inb) (ix2 k x) = x1 (ix2 ⟨b + k.val, by omega⟩ x) := by
  subst h
  pointwise []

/-- A chunk of values, read. -/
theorem values_at (x2 : Vec Ideal S1x13x128x1280 .bf16) (off : Fin 4 → ℕ) (b : ℕ) (h : off = ![0, b, 0, 0])
    (inb : ∀ a, off a + S1x1x128x1280.size a ≤ S1x13x128x1280.size a) (d : Fin 128) (k : Fin 1280) (hb : b < 13) :
    View.ld x2 (Rect.unit (s := S1x13x128x1280) off S1x1x128x1280.size inb) (ix4 0 0 d k) = x2 (ix4 0 ⟨b, hb⟩ d k) := by
  subst h
  pointwise []

/-- The scores of a chunk. -/
theorem score_at (q : Vec Ideal S1024x128 .bf16) (K : Vec Ideal S1280x128 .bf16) (k : Fin 1280) (j : Fin 1024) :
    k0_pay10 (F := Ideal) q K (ix2 k j) = ∑ x : Fin 128, K (ix2 k x) * q (ix2 j x) := by
  pointwise [k0_pay10]

/-- The new maximum. -/
theorem max_at (S : Vec Ideal S1280x1024 .f32) (m : Vec Ideal S1x1024 .f32) (j : Fin 1024) :
    k0_pay7 (F := Ideal) S m (ix2 0 j) = max (m (ix2 0 j)) (Finset.univ.fold max ⊥ fun x => S (ix2 x j)) := by
  pointwise [k0_pay7, k0_pay3]
  rw [neg_inf]

/-- The new sum of weights. -/
theorem sum_at (S : Vec Ideal S1280x1024 .f32) (m l : Vec Ideal S1x1024 .f32) (j : Fin 1024) :
    k0_pay6 (F := Ideal) S m l (ix2 0 j)
      = Ideal.exp2 (m (ix2 0 j) - k0_pay7 (F := Ideal) S m (ix2 0 j)) * l (ix2 0 j)
        + ∑ x : Fin 1280, 1 * Ideal.exp2 (S (ix2 x j) - k0_pay7 (F := Ideal) S m (ix2 0 j)) := by
  pointwise [k0_pay6, k0_pay4, k0_pay5, k0_pay7]
  rfl

/-- The new weighted sum. -/
theorem acc_at (S : Vec Ideal S1280x1024 .f32) (m : Vec Ideal S1x1024 .f32) (a : Vec Ideal S128x1024 .f32)
    (W : Vec Ideal S1x1x128x1280 .bf16) (d : Fin 128) (j : Fin 1024) :
    k0_pay9 (F := Ideal) (k0_pay5 (F := Ideal) S m) (k0_pay8 (F := Ideal) S m a) W (ix2 d j)
      = Ideal.exp2 (m (ix2 0 j) - k0_pay7 (F := Ideal) S m (ix2 0 j)) * a (ix2 d j)
        + ∑ x : Fin 1280, W (ix4 0 0 d x) * Ideal.exp2 (S (ix2 x j) - k0_pay7 (F := Ideal) S m (ix2 0 j)) := by
  pointwise [k0_pay9, k0_pay8, k0_pay4, k0_pay5, k0_pay7]
  rfl

/-- Row `256 h + r` of the queries is row `r` of head `h`. -/
theorem queries_at (x0 : Vec Ideal S256x512 .bf16) (h : Fin 4) (r : Fin 256) (d : Fin 128) :
    queries (F := Ideal) x0 (ix2 ⟨256 * h.val + r.val, by omega⟩ d) = x0 (ix2 r ⟨128 * h.val + d.val, by omega⟩) := by
  fin_cases h <;> pointwise [queries, k0_pay15] <;> try rfl
  all_goals
    rw [dif_neg (by omega), dif_neg (by omega)]
    first | rw [dif_pos (by omega)] | rw [dif_neg (by omega)]
    exact congrArg x0 (congrArg₂ ix2 (Fin.ext (by dsimp only; omega)) rfl)

end Cert.Gqa

end
-- ==== Proof.SweepPoint.lean ====
module

public import proofs.«01_k».proof.Proof.GqaPayload

/-! The whole sweep read at one entry.

For one query and one column of the values, the numbers carried over `n` trips are those of the first
`2560 n` keys; after the last chunk their quotient is the attention over all 16640 keys. -/

@[expose] public section

set_option maxRecDepth 16384

noncomputable section

namespace Cert.Gqa

open Cert.KernelIdeal Cert.KernelIdeal.Gen Cert.Online
open Idealize.ShloMosaic Idealize.ShloMosaic.TcCoe Idealize.SL.Sem

/-- A chunk of 1280 keys taken in. -/
theorem absorb {σ w : ℕ → ℝ} {n : ℕ} {d : Fin 128} {j : Fin 1024} (S : Vec Ideal S1280x1024 .f32) (m l : Vec Ideal S1x1024 .f32)
    (a : Vec Ideal S128x1024 .f32) (W : Vec Ideal S1x1x128x1280 .bf16)
    (hS : ∀ x : Fin 1280, S (ix2 x j) = (σ (n + x) : EReal)) (hW : ∀ x : Fin 1280, W (ix4 0 0 d x) = (w (n + x) : EReal))
    (ha : Held σ w n (m (ix2 0 j)) (a (ix2 d j))) (hl : Held σ (fun _ => 1) n (m (ix2 0 j)) (l (ix2 0 j))) :
    Held σ w (n + 1280) (k0_pay7 (F := Ideal) S m (ix2 0 j))
        (k0_pay9 (F := Ideal) (k0_pay5 (F := Ideal) S m) (k0_pay8 (F := Ideal) S m a) W (ix2 d j))
      ∧ Held σ (fun _ => 1) (n + 1280) (k0_pay7 (F := Ideal) S m (ix2 0 j)) (k0_pay6 (F := Ideal) S m l (ix2 0 j)) := by
  rw [acc_at, sum_at, max_at]
  exact ⟨ha.step (by decide) _ _ hS hW, hl.step (by decide) _ (fun _ => 1) hS fun _ => by simp⟩

section

variable (q : Vec Ideal S1024x128 .bf16) (x1 : Vec Ideal S16640x128 .bf16) (x2 : Vec Ideal S1x13x128x1280 .bf16)
  (σ w : ℕ → ℝ) (d : Fin 128) (j : Fin 1024)

/-- What is carried after `n` trips. -/
def Carried (n : ℕ) (p : Carry Ideal) : Prop :=
  (∀ k : Fin 1280, p.s (ix2 k j) = (σ (2560 * n + k) : EReal))
    ∧ Held σ w (2560 * n) (p.m (ix2 0 j)) (p.a (ix2 d j))
    ∧ Held σ (fun _ => 1) (2560 * n) (p.m (ix2 0 j)) (p.l (ix2 0 j))

/-- The scores of query `j` are `σ`, the values of column `d` are `w`. -/
def Reads : Prop :=
  (∀ k : Fin 16640, ∑ x : Fin 128, x1 (ix2 k x) * q (ix2 j x) = (σ k : EReal))
    ∧ ∀ (n : Fin 13) (k : Fin 1280), x2 (ix4 0 n d k) = (w (1280 * n + k) : EReal)

variable {q x1 x2 σ w d j}

theorem score_chunk (h : Reads q x1 x2 σ w d j) (off : Fin 2 → ℕ) (b : ℕ) (ho : off = ![b, 0])
    (inb : ∀ a, off a + S1280x128.size a ≤ S16640x128.size a) (hb : b + 1280 ≤ 16640) (k : Fin 1280) :
    k0_pay10 (F := Ideal) q (View.ld x1 (Rect.unit (s := S16640x128) off S1280x128.size inb)) (ix2 k j)
      = (σ (b + k) : EReal) := by
  rw [score_at, ← h.1 ⟨b + k.val, by omega⟩]
  exact Finset.sum_congr rfl fun x _ => by rw [keys_at x1 off b ho inb k x hb]

theorem value_chunk (h : Reads q x1 x2 σ w d j) (off : Fin 4 → ℕ) (b n : ℕ) (ho : off = ![0, b, 0, 0])
    (inb : ∀ a, off a + S1x1x128x1280.size a ≤ S1x13x128x1280.size a) (hb : b < 13) (hn : n = 1280 * b) (k : Fin 1280) :
    View.ld x2 (Rect.unit (s := S1x13x128x1280) off S1x1x128x1280.size inb) (ix4 0 0 d k) = (w (n + k) : EReal) := by
  rw [hn, values_at x2 off b ho inb d k hb, h.2]

theorem carried_start (h : Reads q x1 x2 σ w d j) : Carried σ w d j 0 (start (F := Ideal) q x1) := by
  have hm : (k0_pay16 (F := Ideal)) (ix2 0 j) = ⊥ := by
    pointwise [k0_pay16]
    rw [neg_inf]
  have ha : (k0_pay18 (F := Ideal)) (ix2 d j) = 0 := by pointwise [k0_pay18]
  have hl : (k0_pay17 (F := Ideal)) (ix2 0 j) = 0 := by pointwise [k0_pay17]
  refine ⟨fun k => ?_, ?_, ?_⟩
  · exact score_chunk h _ 0 rfl inb_S16640x128_S1280x128_0_0 (by omega) k
  · show Held σ w 0 ((k0_pay16 (F := Ideal)) (ix2 0 j)) ((k0_pay18 (F := Ideal)) (ix2 d j))
    rw [hm, ha]
    exact held_zero _ _
  · show Held σ _ 0 ((k0_pay16 (F := Ideal)) (ix2 0 j)) ((k0_pay17 (F := Ideal)) (ix2 0 j))
    rw [hm, hl]
    exact held_zero _ _

theorem carried_trip (h : Reads q x1 x2 σ w d j) (k : Fin k0_t1_loop.trips) (p : Carry Ideal) (hp : Carried σ w d j k p) :
    Carried σ w d j (k.val + 1) (trip q x1 x2 k p) := by
  have hk : k.val < 6 := lt_of_lt_of_le k.isLt k0_t1_abs.2.1
  obtain ⟨hs, ha, hl⟩ := hp
  have first := absorb p.s p.m p.l p.a _ hs
    (value_chunk h _ (2 * k.val) _ (k0_off2_eq k) (k0_off2_inb k) (by omega) (by omega)) ha hl
  have second := absorb _ _ _ _ _
    (score_chunk h _ (2560 * k.val + 1280) (k0_off1_eq k 0) (k0_off1_inb k 0) (by omega))
    (value_chunk h _ (2 * k.val + 1) _ (k0_off3_eq k) (k0_off3_inb k) (by omega) (by omega)) first.1 first.2
  refine ⟨fun x => ?_, ?_, ?_⟩
  · have := score_chunk h _ (2560 * k.val + 2560) (k0_off1_eq k 1) (k0_off1_inb k 1) (by omega) x
    exact this
  · exact second.1
  · exact second.2

theorem carried_sweep (h : Reads q x1 x2 σ w d j) :
    ∀ n, n ≤ k0_t1_loop.trips → Carried σ w d j n (sweep q x1 x2 (start (F := Ideal) q x1) n)
  | 0, _ => carried_start h
  | n + 1, hn => by
      rw [sweep]
      split
      · exact carried_trip h ⟨n, by assumption⟩ _ (carried_sweep h n (by omega))
      · omega

/-- The quotient of the two sums is the attention over all keys. -/
theorem sweep_at (h : Reads q x1 x2 σ w d j) :
    Ideal.div (totalOf (F := Ideal) q x1 x2 (ix2 d j)) (weightOf (F := Ideal) q x1 x2 (ix2 0 j)) = (att σ w 16640 : EReal) := by
  obtain ⟨hs, ha, hl⟩ := carried_sweep h k0_t1_loop.trips le_rfl
  have ht : k0_t1_loop.trips = 6 := by decide +kernel
  rw [ht] at hs ha hl
  have last := absorb _ _ _ _ _ hs
    (value_chunk h _ 12 _ rfl inb_S1x13x128x1280_S1x1x128x1280_0_12_0_0 (by omega) rfl) ha hl
  have := last.1.div (by omega) last.2
  rw [← ht] at this
  exact this

end

end Cert.Gqa

end
-- ==== Proof.GqaPoint.lean ====
module

public import proofs.«01_k».proof.Proof.SweepPoint

/-! The output block read at one entry: the quotient of the two sums, times the gate. -/

@[expose] public section

set_option maxRecDepth 16384

noncomputable section

namespace Cert.Gqa

open Cert.KernelIdeal Cert.KernelIdeal.Gen Cert.Online
open Idealize.ShloMosaic Idealize.ShloMosaic.TcCoe Idealize.SL.Sem

/-- The quotient of the two sums is the attention over all keys. -/
theorem quotient_at {x0 : Vec Ideal S256x512 .bf16} {x1 : Vec Ideal S16640x128 .bf16} {x2 : Vec Ideal S1x13x128x1280 .bf16}
    {σ w : ℕ → ℝ} {d : Fin 128} {j : Fin 1024} (h : Reads (queries (F := Ideal) x0) x1 x2 σ w d j) :
    Ideal.div (total (F := Ideal) x0 x1 x2 (ix2 d j)) (weight (F := Ideal) x0 x1 x2 (ix2 0 j)) = (att σ w 16640 : EReal) :=
  sweep_at h

/-- The output block at one entry: the quotient times the gate. -/
theorem out_at (x0 : Vec Ideal S256x512 .bf16) (x1 : Vec Ideal S16640x128 .bf16) (x2 : Vec Ideal S1x13x128x1280 .bf16)
    (x3 : Vec Ideal S256x512 .bf16) (h : Fin 4) (r : Fin 256) (d : Fin 128) :
    out (F := Ideal) x0 x1 x2 x3 (ix2 r ⟨128 * h.val + d.val, by omega⟩)
      = Ideal.div (total (F := Ideal) x0 x1 x2 (ix2 d ⟨256 * h.val + r.val, by omega⟩))
          (weight (F := Ideal) x0 x1 x2 (ix2 0 ⟨256 * h.val + r.val, by omega⟩))
        * Ideal.div (x3 (ix2 r ⟨128 * h.val + d.val, by omega⟩))
            (1 + Ideal.exp (0 - x3 (ix2 r ⟨128 * h.val + d.val, by omega⟩))) := by
  unfold out pieces piecesOf
  generalize total (F := Ideal) x0 x1 x2 = A
  generalize weight (F := Ideal) x0 x1 x2 = l
  fin_cases h
  · rw [View.read_writes_cons_unit_of_not_mem _ _ _ _ _ _ rfl 1 (.inl (by simp; try omega)),
      View.read_writes_cons_unit_of_not_mem _ _ _ _ _ _ rfl 1 (.inl (by simp; try omega)),
      View.read_writes_cons_unit_of_not_mem _ _ _ _ _ _ rfl 1 (.inl (by simp; try omega)),
      View.read_writes_cons_unit_of_mem _ _ _ _ _ _ (ix2 r d) rfl (by intro a; fin_cases a <;> simp)]
    pointwise [k0_pay30, k0_pay29]
  · rw [View.read_writes_cons_unit_of_not_mem _ _ _ _ _ _ rfl 1 (.inl (by simp; try omega)),
      View.read_writes_cons_unit_of_not_mem _ _ _ _ _ _ rfl 1 (.inl (by simp; try omega)),
      View.read_writes_cons_unit_of_mem _ _ _ _ _ _ (ix2 r d) rfl (by intro a; fin_cases a <;> simp)]
    pointwise [k0_pay31, k0_pay29]
  · rw [View.read_writes_cons_unit_of_not_mem _ _ _ _ _ _ rfl 1 (.inl (by simp; try omega)),
      View.read_writes_cons_unit_of_mem _ _ _ _ _ _ (ix2 r d) rfl (by intro a; fin_cases a <;> simp)]
    pointwise [k0_pay32, k0_pay29]
  · rw [View.read_writes_cons_unit_of_mem _ _ _ _ _ _ (ix2 r d) rfl (by intro a; fin_cases a <;> simp)]
    pointwise [k0_pay1, k0_pay29]

end Cert.Gqa

end
-- ==== Proof.GqaSpec.lean ====
module

public import proofs.«01_k».proof.Proof.Online
public import Idealize.ShloMosaic.Lib.Pipeline.ValueKit

/-! Grouped attention with a gate, as a function of real numbers.

A row of the projection holds 16 query heads of 128 columns, then 4 key heads, 4 value heads and 16
heads of the gate.  Query head `4 h + g` attends with key and value head `h`.  Scores are in units of
the logarithm of two. -/

@[expose] public section

noncomputable section

namespace Cert.Gqa

open Cert.Online
open Idealize.ShloMosaic

/-- The score of key `k` for row `r`'s query head `4 h + g`. -/
def score (ρ : ℕ → ℕ → ℝ) (r h g k : ℕ) : ℝ :=
  ∑ x : Fin 128, ρ k (2048 + 128 * h + x.val) * ρ r (512 * h + 128 * g + x.val)

/-- The gate of a number. -/
def gate (z : ℝ) : EReal := Ideal.div (z : EReal) (1 + Ideal.exp (0 - (z : EReal)))

/-- The gated attention of row `r`, head `4 h + g`, column `d`. -/
def spec (ρ : ℕ → ℕ → ℝ) (r h g d : ℕ) : EReal :=
  (att (score ρ r h g) (fun k => ρ k (2560 + 128 * h + d)) 16640 : EReal) * gate (ρ r (3072 + 512 * h + 128 * g + d))

/-- The real numbers an array of finite entries holds. -/
def rho (p : FVec Ideal (⟨2, ![16640, 5120]⟩ : Shape) .bf16) (r k : ℕ) : ℝ :=
  if h : r < 16640 ∧ k < 5120 then EReal.toReal (p (ix2 ⟨r, h.1⟩ ⟨k, h.2⟩)) else 0

theorem rho_eq {p : FVec Ideal (⟨2, ![16640, 5120]⟩ : Shape) .bf16} (hp : ∀ i, (p i : EReal) ≠ ⊥ ∧ (p i : EReal) ≠ ⊤)
    (r : Fin 16640) (k : Fin 5120) : p (ix2 r k) = (rho p r.val k.val : EReal) := by
  rw [rho, dif_pos ⟨r.isLt, k.isLt⟩]
  exact (EReal.coe_toReal (hp _).2 (hp _).1).symm

/-- The result, as an array. -/
def specArr (p : FVec Ideal (⟨2, ![16640, 5120]⟩ : Shape) .bf16) : FVec Ideal (⟨2, ![16640, 2048]⟩ : Shape) .bf16 :=
  fun y => spec (rho p) (y 0).val ((y 1).val / 512) ((y 1).val % 512 / 128) ((y 1).val % 128)

end Cert.Gqa

end
-- ==== Proof.GqaKernel.lean ====
module

public import proofs.«01_k».proof.Proof.GqaFrame
public import proofs.«01_k».proof.Proof.GqaPoint
public import proofs.«01_k».proof.Proof.GqaSpec

/-! What the attention's call leaves in its result: on the latent rows, the gated attention. -/

@[expose] public section

set_option maxRecDepth 16384
set_option maxHeartbeats 2000000

noncomputable section

namespace Cert.Gqa

open Cert.KernelIdeal Cert.KernelIdeal.Gen Cert.Online
open Idealize.ShloMosaic Idealize.ShloMosaic.TcCoe Idealize.SL.Sem
open Idealize.ShloMosaic.Pipeline (Dat)

variable (m : (ℓ : Loc nD τ sig) → Buf (Elt Ideal) ℓ)

/-- Where the blocks of a point lie. -/
theorem place : ∀ t : Fin cfg0.N, win0_0.index t = ![t.val % 64, t.val / 64] ∧ win0_1.index t = ![0, 16 + t.val / 64]
    ∧ win0_2.index t = ![t.val / 64, 0, 0, 0] ∧ win0_3.index t = ![t.val % 64, 6 + t.val / 64]
    ∧ win0_4.index t = ![t.val % 64, t.val / 64] ∧ t.val < 256 :=
  (by decide +kernel : ∀ t : Fin grid0.N, _)

section

variable (c : Dev nD) (t : Fin cfg0.N)

/-- The projection's array. -/
abbrev P : Vec Ideal S16640x5120 .bf16 := m ((c.tc : Thread nD τ).loc main_arg0)

variable (hp : ∀ i, (P m c i : EReal) ≠ ⊥ ∧ (P m c i : EReal) ≠ ⊤)
include hp

theorem block_q (r : Fin 256) (x : Fin 512) :
    iblk m c 0 t (ix2 r x) = (rho (P m c) (256 * (t.val % 64) + r.val) (512 * (t.val / 64) + x.val) : EReal) := by
  have := (place t).2.2.2.2.2
  refine Eq.trans ?_ (rho_eq hp ⟨256 * (t.val % 64) + r.val, by omega⟩ ⟨512 * (t.val / 64) + x.val, by omega⟩)
  blk_point [iblk, V, place t]

theorem block_k (k : Fin 16640) (x : Fin 128) :
    iblk m c 1 t (ix2 k x) = (rho (P m c) k.val (2048 + 128 * (t.val / 64) + x.val) : EReal) := by
  have := (place t).2.2.2.2.2
  refine Eq.trans ?_ (rho_eq hp k ⟨2048 + 128 * (t.val / 64) + x.val, by omega⟩)
  blk_point [iblk, V, place t]

theorem block_v (n : Fin 13) (d : Fin 128) (k : Fin 1280) :
    iblk m c 2 t (ix4 0 n d k) = (rho (P m c) (1280 * n.val + k.val) (2560 + 128 * (t.val / 64) + d.val) : EReal) := by
  have := (place t).2.2.2.2.2
  refine Eq.trans ?_ (rho_eq hp ⟨1280 * n.val + k.val, by omega⟩ ⟨2560 + 128 * (t.val / 64) + d.val, by omega⟩)
  blk_point [iblk, V, place t]

theorem block_g (r : Fin 256) (x : Fin 512) :
    iblk m c 3 t (ix2 r x) = (rho (P m c) (256 * (t.val % 64) + r.val) (3072 + 512 * (t.val / 64) + x.val) : EReal) := by
  have := (place t).2.2.2.2.2
  refine Eq.trans ?_ (rho_eq hp ⟨256 * (t.val % 64) + r.val, by omega⟩ ⟨3072 + 512 * (t.val / 64) + x.val, by omega⟩)
  blk_point [iblk, V, place t]

theorem reads (g : Fin 4) (r : Fin 256) (d : Fin 128) :
    Reads (queries (iblk m c 0 t)) (iblk m c 1 t) (iblk m c 2 t) (score (rho (P m c)) (256 * (t.val % 64) + r.val) (t.val / 64) g.val)
      (fun k => rho (P m c) k (2560 + 128 * (t.val / 64) + d.val)) d ⟨256 * g.val + r.val, by omega⟩ := by
  refine ⟨fun k => ?_, fun n k => block_v m c t hp n d k⟩
  rw [score, coe_sum]
  refine Finset.sum_congr rfl fun x _ => ?_
  rw [queries_at, block_k m c t hp, block_q m c t hp, EReal.coe_mul]
  simp only [Nat.add_assoc]

/-- A point's output block. -/
theorem point (g : Fin 4) (r : Fin 256) (d : Fin 128) :
    outAt m c t (ix2 r ⟨128 * g.val + d.val, by omega⟩)
      = spec (rho (P m c)) (256 * (t.val % 64) + r.val) (t.val / 64) g.val d.val := by
  unfold outAt
  rw [out_at, quotient_at (reads m c t hp g r d), block_g m c t hp, spec, gate]
  simp only [Nat.add_assoc]

/-- The result's latent rows after the run. -/
theorem final : (dats m 0 c).arrAt 4 cfg0.N
    = fun i => if (i 0).val < 16384 then specArr (P m c) i else (dats m 0 c).A 4 i := by
  refine (dats m 0 c).arrAt_eq_of_coversWhere 4 (specArr (P m c)) (fun β => β (0 : Fin 2) < 64) (by decide +kernel)
    (fun t _ y => ?_) (fun j => by blk_simp [Pipeline.Window.cell_apply]; omega)
  idx_vars y
  have ht := (place t).2.2.2.2.2
  blk_simp
  rw [after_o]
  have he : (win0_4.blk t).view.emb (ix2 y0 y1)
      = (ix2 ⟨256 * (t.val % 64) + y0.val, by omega⟩ ⟨512 * (t.val / 64) + y1.val, by omega⟩ : S16640x2048.Idx) := by
    blk_point [place t]
  have hy : y1 = ⟨128 * (⟨y1.val / 128, by omega⟩ : Fin 4).val + (⟨y1.val % 128, by omega⟩ : Fin 128).val, by dsimp only; omega⟩ :=
    Fin.ext (by dsimp only; omega)
  rw [he]
  refine (congrArg (fun x => outAt m c t (ix2 y0 x)) hy).trans ((point m c t hp _ y0 _).trans ?_)
  show _ = spec _ (256 * (t.val % 64) + y0.val) ((512 * (t.val / 64) + y1.val) / 512) ((512 * (t.val / 64) + y1.val) % 512 / 128)
    ((512 * (t.val / 64) + y1.val) % 128)
  rw [show (512 * (t.val / 64) + y1.val) / 512 = t.val / 64 by omega,
    show (512 * (t.val / 64) + y1.val) % 512 / 128 = y1.val / 128 by omega,
    show (512 * (t.val / 64) + y1.val) % 128 = y1.val % 128 by omega]

end

end Cert.Gqa

end
-- ==== Proof.GqaRef.lean ====
module

public import proofs.«01_k».proof.Proof.GqaSpec
public import proofs.«01_k».proof.Proof.Gen.ReferenceIdeal.Run

/-! What the reference computes. -/

@[expose] public section

set_option maxRecDepth 16384
set_option maxHeartbeats 2000000

noncomputable section

namespace Cert.Gqa

open Cert.ReferenceIdeal Cert.ReferenceIdeal.Gen Cert.Online
open Idealize.ShloMosaic Idealize.ShloMosaic.TcCoe Idealize.SL.Sem

variable (p : FVec Ideal S16640x5120 .bf16)

/-- The scores, times the logarithm of two. -/
def refScores : FVec Ideal S4x4x16384x16640 .f32 :=
  mulf (Host.dotGeneral dot_S4x4x16384x128_S4x16640x128_S4x4x16384x16640_3_2_12_1_0_0 none
      (shapeCast _ (transpose S16x16384x128 [1, 0, 2]
        (shapeCast _ (extractStridedSlice S16384x2048 ![0, 0]
          (extractStridedSlice S16640x2048 ![0, 0] (extf .f32 p bitsLt_bf16_f32) slices_S16640x5120_S16640x2048_0_0)
          slices_S16640x2048_S16384x2048_0_0) shapeCasts_S16384x2048_S16384x16x128)
        transposes_S16384x16x128_S16x16384x128_1_0_2) shapeCasts_S16x16384x128_S4x4x16384x128)
      (transpose S4x16640x128 [1, 0, 2]
        (shapeCast _ (extractStridedSlice S16640x512 ![0, 2048] (extf .f32 p bitsLt_bf16_f32) slices_S16640x5120_S16640x512_0_2048)
          shapeCasts_S16640x512_S16640x4x128) transposes_S16640x4x128_S4x16640x128_1_0_2))
    (broadcastInDim S4x4x16384x16640 ![] bcast_S_S4x4x16384x16640 (id (Host.log (constant S_ .f32 0x40000000#32))))

/-- The largest score of a row. -/
def refMax (s : FVec Ideal S4x4x16384x16640 .f32) : FVec Ideal S4x4x16384 .f32 :=
  maximumf (broadcastInDim S4x4x16384 ![] bcast_S_S4x4x16384 (constant S_ .f32 0xFF800000#32))
    (Host.reduce FloatOps.maximumf s (constant S_ .f32 0xFF800000#32) reducesTo_S4x4x16384x16640_S4x4x16384_d3 h_S_)

/-- The exponentials of the scores less the largest. -/
def refExp (s : FVec Ideal S4x4x16384x16640 .f32) : FVec Ideal S4x4x16384x16640 .f32 :=
  Host.exp (subf s (broadcastInDim S4x4x16384x16640 ![0, 1, 2, 3] bcast_S4x4x16384x1_S4x4x16384x16640_0_1_2_3
    (broadcastInDim S4x4x16384x1 ![0, 1, 2] bcast_S4x4x16384_S4x4x16384x1_0_1_2 (refMax s))))

/-- The weights. -/
def refWeights (s : FVec Ideal S4x4x16384x16640 .f32) : FVec Ideal S4x4x16384x16640 .f32 :=
  Host.divf (refExp s) (broadcastInDim S4x4x16384x16640 ![0, 1, 2, 3] bcast_S4x4x16384x1_S4x4x16384x16640_0_1_2_3
    (broadcastInDim S4x4x16384x1 ![0, 1, 2] bcast_S4x4x16384_S4x4x16384x1_0_1_2
      (Host.reduceAdd (refExp s) (constant S_ .f32 0x00000000#32) reducesTo_S4x4x16384x16640_S4x4x16384_d3 h_S_)))

/-- The values, by head. -/
def refValues : FVec Ideal S4x16640x128 .f32 :=
  transpose S4x16640x128 [1, 0, 2]
    (shapeCast _ (extractStridedSlice S16640x512 ![0, 2560] (extf .f32 p bitsLt_bf16_f32) slices_S16640x5120_S16640x512_0_2560)
      shapeCasts_S16640x512_S16640x4x128) transposes_S16640x4x128_S4x16640x128_1_0_2

/-- The attention, by head. -/
def refAtt : FVec Ideal S4x4x16384x128 .f32 :=
  Host.dotGeneral dot_S4x4x16384x16640_S4x16640x128_S4x4x16384x128_3_1_12_2_0_0 none (refWeights (refScores p)) (refValues p)

/-- The gate's columns. -/
def refGate : FVec Ideal S16384x2048 .f32 :=
  extractStridedSlice S16384x2048 ![0, 0]
    (extractStridedSlice S16640x2048 ![0, 3072] (extf .f32 p bitsLt_bf16_f32) slices_S16640x5120_S16640x2048_0_3072)
    slices_S16640x2048_S16384x2048_0_0

/-- The whole result. -/
def refOut (a : FVec Ideal S4x4x16384x128 .f32) (g : FVec Ideal S16384x2048 .f32) : FVec Ideal S16640x2048 .bf16 :=
  truncf .bf16 (concatenate S16640x2048 0 [⟨S16384x2048,
    mulf (shapeCast _ (transpose S16384x16x128 [1, 0, 2] (shapeCast _ a shapeCasts_S4x4x16384x128_S16x16384x128)
        transposes_S16x16384x128_S16384x16x128_1_0_2) shapeCasts_S16384x16x128_S16384x2048)
      (mulf g (Host.divf (broadcastInDim S16384x2048 ![] bcast_S_S16384x2048 (constant S_ .f32 0x3F800000#32))
        (addf (broadcastInDim S16384x2048 ![] bcast_S_S16384x2048 (constant S_ .f32 0x3F800000#32)) (Host.exp (Host.negf g)))))⟩,
    ⟨S256x2048, (broadcastInDim S256x2048 ![] bcast_S_S256x2048 (constant S_ .f32 0x00000000#32))⟩]
    concatenates_S16384x2048_S256x2048_S16640x2048_d0) bitsLt_bf16_f32

/-- The generated term is these steps in order. -/
theorem res_eq (m : (ℓ : Loc nD τ sig) → Buf (Elt Ideal) ℓ) (c : Dev nD) :
    Value.res_main_v38 m c = refOut (refAtt (m ((c.tc : Thread nD τ).loc main_arg0))) (refGate (m ((c.tc : Thread nD τ).loc main_arg0))) := by
  unfold Value.res_main_v38
  rfl

theorem scores_at (h g : Fin 4) (r : Fin 16384) (k : Fin 16640) :
    refScores p (ix4 h g r k)
      = (∑ x : Fin 128, p (ix2 ⟨r.val, by omega⟩ ⟨512 * h.val + 128 * g.val + x.val, by omega⟩)
          * p (ix2 k ⟨2048 + 128 * h.val + x.val, by omega⟩)) * Ideal.log (Ideal.ofBits .f32 0x40000000#32) := by
  unfold refScores
  pointwise []
  refine congrArg₂ (· * ·) (Finset.sum_congr rfl fun x _ => ?_) rfl
  refine congrArg₂ (· * ·) (congrArg p ?_) (congrArg p ?_) <;> refine congrArg₂ ix2 (Fin.ext ?_) (Fin.ext ?_) <;> dsimp only <;> omega

/-- A maximum over one axis of real numbers is a real number. -/
theorem reduce_max_coe {s t u : Shape} {a : Fin s.rank} (x : FVec Ideal s .f32) (init : FVec Ideal u .f32)
    (h' : s.ReducesTo [a] t) (h : s.Reduces [a] t) (hu : 0 < u.numel) (ha : 0 < s.size a)
    (hx : ∀ i, ∃ z : ℝ, x i = (z : EReal)) (hi : init (Shape.Idx.first hu) = (⊥ : EReal)) (j : t.Idx) :
    ∃ X : ℝ, Host.reduce FloatOps.maximumf x init h' hu j = (X : EReal) := by
  choose z hz using hx
  rw [Host.reduce_eq_fold_single FloatOps.maximumf x init h' h hu, hi]
  obtain ⟨X, hX⟩ := fold_max_coe ha fun k => z (h.lift j k)
  refine ⟨X, Eq.trans ?_ hX⟩
  rw [show x ∘ h.lift j = fun k => (z (h.lift j k) : EReal) from funext fun k => hz _]
  rfl

/-- A maximum with minus infinity is the other number. -/
theorem max_bot_at {s : Shape} (b x : FVec Ideal s .f32) (j : s.Idx) (hb : b j = (⊥ : EReal)) : maximumf b x j = x j := by
  show max (b j : EReal) (x j) = x j
  rw [hb]
  exact max_eq_right bot_le

theorem max_ref_at (s : FVec Ideal S4x4x16384x16640 .f32) (hs : ∀ i, ∃ z : ℝ, s i = (z : EReal)) (j : S4x4x16384.Idx) :
    ∃ X : ℝ, refMax s j = (X : EReal) := by
  obtain ⟨X, hX⟩ := reduce_max_coe s (constant S_ .f32 0xFF800000#32) reducesTo_S4x4x16384x16640_S4x4x16384_d3 (by decide) h_S_ (by decide) hs
    (by show Ideal.ofBits FTy.f32 4286578688#32 = ⊥; simp [Ideal.ofBits, Ideal.ieee]) j
  refine ⟨X, ?_⟩
  unfold refMax
  exact (max_bot_at _ _ j (by show Ideal.ofBits FTy.f32 4286578688#32 = ⊥; simp [Ideal.ofBits, Ideal.ieee])).trans hX

theorem exp_at (s : FVec Ideal S4x4x16384x16640 .f32) (h g : Fin 4) (r : Fin 16384) (k : Fin 16640) :
    refExp s (ix4 h g r k) = Ideal.exp (s (ix4 h g r k) - refMax s (ix3 h g r)) := by
  unfold refExp
  generalize refMax s = M
  pointwise []
  try rfl

theorem weights_at (s : FVec Ideal S4x4x16384x16640 .f32) (h g : Fin 4) (r : Fin 16384) (k : Fin 16640) :
    refWeights s (ix4 h g r k) = Ideal.div (refExp s (ix4 h g r k)) (∑ j : Fin 16640, refExp s (ix4 h g r j)) := by
  unfold refWeights
  generalize refExp s = M
  pointwise []
  try rfl

theorem values_ref_at (h : Fin 4) (k : Fin 16640) (d : Fin 128) :
    refValues p (ix3 h k d) = p (ix2 k ⟨2560 + 128 * h.val + d.val, by omega⟩) := by
  unfold refValues
  pointwise []
  exact congrArg p (congrArg₂ ix2 rfl (Fin.ext (by dsimp only; omega)))

theorem att_at (h g : Fin 4) (r : Fin 16384) (d : Fin 128) :
    refAtt p (ix4 h g r d) = ∑ k : Fin 16640, refWeights (refScores p) (ix4 h g r k) * refValues p (ix3 h k d) := by
  unfold refAtt
  generalize refWeights (refScores p) = W
  generalize refValues p = V
  pointwise []
  try rfl

theorem gate_at (r : Fin 16384) (x : Fin 2048) : refGate p (ix2 r x) = p (ix2 ⟨r.val, by omega⟩ ⟨3072 + x.val, by omega⟩) := by
  unfold refGate
  pointwise []
  try rfl

theorem out_ref_at (a : FVec Ideal S4x4x16384x128 .f32) (z : FVec Ideal S16384x2048 .f32) (r : Fin 16384) (h g : Fin 4) (d : Fin 128) :
    refOut a z (ix2 ⟨r.val, by omega⟩ ⟨512 * h.val + 128 * g.val + d.val, by omega⟩)
      = a (ix4 h g r d) * (z (ix2 r ⟨512 * h.val + 128 * g.val + d.val, by omega⟩)
          * Ideal.div 1 (1 + Ideal.exp (- z (ix2 r ⟨512 * h.val + 128 * g.val + d.val, by omega⟩)))) := by
  unfold refOut
  pointwise []

end Cert.Gqa

end
-- ==== Proof.GqaRefSpec.lean ====
module

public import proofs.«01_k».proof.Proof.GqaRef

/-! The reference's result is the gated attention. -/

@[expose] public section

set_option maxRecDepth 16384

noncomputable section

namespace Cert.Gqa

open Cert.ReferenceIdeal Cert.ReferenceIdeal.Gen Cert.Online
open Idealize.ShloMosaic Idealize.ShloMosaic.TcCoe Idealize.SL.Sem

theorem log_two : Ideal.log (Ideal.ofBits FTy.f32 0x40000000#32) = (Real.log 2 : EReal) := by
  have h : Ideal.ofBits FTy.f32 0x40000000#32 = ((2 : ℝ) : EReal) := by
    simp [Ideal.ofBits, Ideal.ieee]
    rw [← EReal.coe_mul]
    norm_num
  rw [h, Ideal.log_coe, if_neg (by norm_num)]

/-- An exponential in base two. -/
theorem exp_two (a X : ℝ) : Real.exp (a * Real.log 2 - X) = (2 : ℝ) ^ (a - X / Real.log 2) := by
  have h : Real.log 2 ≠ 0 := (Real.log_pos one_lt_two).ne'
  rw [Real.rpow_def_of_pos two_pos]
  congr 1
  field_simp

/-- The gate written with a quotient of one. -/
theorem gate_eq (z : ℝ) : gate z = (z : EReal) * Ideal.div 1 (1 + Ideal.exp (- (z : EReal))) := by
  have h : (1 : EReal) + Ideal.exp (- (z : EReal)) = ((1 + Real.exp (-z) : ℝ) : EReal) := by
    rw [← EReal.coe_neg, Ideal.exp_coe, EReal.coe_add, EReal.coe_one]
  have h0 : 1 + Real.exp (-z) ≠ 0 := by positivity
  rw [gate, zero_sub, h, Ideal.div_coe h0, Ideal.div_coe h0, one_mul]

variable {p : FVec Ideal S16640x5120 .bf16} (hp : ∀ i, (p i : EReal) ≠ ⊥ ∧ (p i : EReal) ≠ ⊤)
include hp

theorem scores_real (h g : Fin 4) (r : Fin 16384) (k : Fin 16640) :
    refScores p (ix4 h g r k) = ((score (rho p) r.val h.val g.val k.val * Real.log 2 : ℝ) : EReal) := by
  rw [scores_at, log_two, EReal.coe_mul, score, coe_sum]
  refine congrArg₂ (· * ·) (Finset.sum_congr rfl fun x _ => ?_) rfl
  rw [rho_eq hp, rho_eq hp, ← EReal.coe_mul, mul_comm]

theorem att_real (h g : Fin 4) (r : Fin 16384) (d : Fin 128) :
    refAtt p (ix4 h g r d)
      = (att (score (rho p) r.val h.val g.val) (fun k => rho p k (2560 + 128 * h.val + d.val)) 16640 : EReal) := by
  obtain ⟨X, hX⟩ := max_ref_at (refScores p) (fun i => by idx_vars i; exact ⟨_, scores_real hp _ _ _ _⟩) (ix3 h g r)
  have he : ∀ k : Fin 16640, refExp (refScores p) (ix4 h g r k)
      = (((2 : ℝ) ^ (score (rho p) r.val h.val g.val k.val - X / Real.log 2) : ℝ) : EReal) := fun k => by
    rw [exp_at, hX, scores_real hp, ← EReal.coe_sub, Ideal.exp_coe, exp_two]
  have hsum : ∑ k : Fin 16640, refExp (refScores p) (ix4 h g r k)
      = ((∑ k ∈ Finset.range 16640, (2 : ℝ) ^ (score (rho p) r.val h.val g.val k - X / Real.log 2) : ℝ) : EReal) := by
    rw [Finset.sum_range, coe_sum]
    exact Finset.sum_congr rfl fun k _ => he k
  have hpos := weights_pos (score (rho p) r.val h.val g.val) 16640 (by norm_num) (X / Real.log 2)
  rw [att_at, ← att_shift _ _ _ (X / Real.log 2), Finset.sum_mul, Finset.sum_range, coe_sum]
  refine Finset.sum_congr rfl fun k _ => ?_
  rw [weights_at, hsum, he, Ideal.div_coe hpos.ne', values_ref_at, rho_eq hp, ← EReal.coe_mul, ← EReal.coe_mul]
  refine congrArg _ ?_
  ring

/-- The reference's result at a latent row. -/
theorem ref_at (r : Fin 16384) (h g : Fin 4) (d : Fin 128) :
    refOut (refAtt p) (refGate p) (ix2 ⟨r.val, by omega⟩ ⟨512 * h.val + 128 * g.val + d.val, by omega⟩)
      = spec (rho p) r.val h.val g.val d.val := by
  rw [out_ref_at, att_real hp, gate_at, rho_eq hp, ← gate_eq, spec]
  simp only [Nat.add_assoc]

end Cert.Gqa

end
-- ==== Proof.GqaClaim.lean ====
module

public import proofs.«01_k».proof.Defs
public import proofs.«01_k».proof.Proof.Gen.Kernel
public import proofs.«01_k».proof.Proof.GqaKernel
public import proofs.«01_k».proof.Proof.GqaRefSpec
public import Idealize.ShloMosaic.Lib.Claim
public import Idealize.ShloMosaic.Lib.Quiescent

/-! The attention's claims: both programs end, and on the latent rows of a finite projection their
results are equal. -/

@[expose] public section

set_option maxRecDepth 16384

noncomputable section

namespace Cert.Gqa

open Idealize.ShloMosaic Idealize.ShloMosaic.TcCoe Idealize.SL.Sem

theorem ofBool_true : ∀ {b : Bool}, BitVec.ofBool b = 1#1 → b = true := by decide

/-- The precondition read: every entry is a real number. -/
theorem finite_iff [Cert.Pre_finite.Facts] (p : FVec Ideal (⟨2, ![16640, 5120]⟩ : Shape) .bf16)
    (h : Cert.Pre_finite.fn (F := Ideal) p = fun _ => 1#1) (i : (⟨2, ![16640, 5120]⟩ : Shape).Idx) :
    (p i : EReal) ≠ ⊥ ∧ (p i : EReal) ≠ ⊤ := by
  have h1 := congrFun h i
  have hb : Ideal.ofBits FTy.bf16 0xFF80#16 = ⊥ := by simp [Ideal.ofBits, Ideal.ieee]
  have ht : Ideal.ofBits FTy.bf16 0x7F80#16 = ⊤ := by simp [Ideal.ofBits, Ideal.ieee]
  idx_vars i
  unfold Cert.Pre_finite.fn at h1
  pointwise [] at h1
  obtain ⟨h2, h3⟩ := IntOp.andi_eq_one.1 h1
  rw [hb] at h2
  replace h2 := of_decide_eq_true (ofBool_true h2)
  rw [ht] at h3
  replace h3 := of_decide_eq_true (ofBool_true h3)
  exact ⟨h2.ne', h3.ne⟩

/-- The mask read: a row it selects is a latent row. -/
theorem latent_iff [Cert.On_latent_rows.Facts] (p : FVec Ideal (⟨2, ![16640, 5120]⟩ : Shape) .bf16)
    (i : (⟨2, ![16640, 2048]⟩ : Shape).Idx) (h : Cert.On_latent_rows.fn (F := Ideal) p i = 1#1) : (i 0).val < 16384 := by
  idx_vars i
  unfold Cert.On_latent_rows.fn at h
  pointwise [] at h
  have := IntOp.cmpi_slt.1 h
  rw [BitVec.toInt_eq_toNat_of_lt (by rw [BitVec.toNat_ofNat]; omega), BitVec.toNat_ofNat] at this
  have h2 : (16384#32).toInt = 16384 := by decide
  rw [h2] at this
  show i0.val < 16384
  omega

/-- The two programs' body tables are the same. -/
theorem defs₀_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

/-- … and so are their whole tables. -/
theorem defs_same : Cert.Kernel.defs (F := Bits) = Cert.KernelIdeal.defs (F := Bits) :=
  congrArg (Pipeline.defs (Cert.KernelIdeal.pcfgs (F := Bits))) defs₀_same

/-- The kernel's frame over machine words, from the one run. -/
theorem frame_kernel [Cert.Kernel.Facts] : Cert.quiescent_Kernel := by
  intro m ρ _
  have h := (θ_run Cert.KernelIdeal.defs (onTc (τ := Cert.KernelIdeal.τ) (Cert.KernelIdeal.main (F := Bits))) ⟨m, fun _ => 0, ρ⟩).mono
    (Q' := fun r => (∀ c : Dev Cert.KernelIdeal.nD, r.2.mem ((c.tc : Thread Cert.KernelIdeal.nD Cert.KernelIdeal.τ).loc Cert.KernelIdeal.main_arg0)
      = m ((c.tc : Thread Cert.KernelIdeal.nD Cert.KernelIdeal.τ).loc Cert.KernelIdeal.main_arg0)) ∧ r.2.sem = fun _ => 0)
    (fun _ h => ⟨fun c => (h.1 c).2, h.2⟩) (run (F := Bits) m ρ)
  rw [← defs_same] at h
  exact h
theorem frame_ideal [Cert.KernelIdeal.Facts] : Cert.quiescent_KernelIdeal := fun m ρ _ =>
  (θ_run Cert.KernelIdeal.defs _ _).mono (fun _ h => ⟨fun c => (h.1 c).2, h.2⟩) (run (F := Ideal) m ρ)

theorem frame_ideal_finite [Cert.KernelIdeal.Facts] [Cert.Pre_finite.Facts] : Cert.quiescent_KernelIdeal_pre_finite :=
  fun m ρ _ => frame_ideal m ρ trivial

theorem frame_ref [Cert.ReferenceIdeal.Facts] : Cert.quiescent_ReferenceIdeal := fun m g _ =>
  (θ_run _ _ _).mono (fun r h => ⟨fun c => (h c).2, sem_eq_zero_of_no_sems (by decide) r.2⟩)
    (Cert.ReferenceIdeal.Value.run m g)

theorem frame_ref_finite [Cert.ReferenceIdeal.Facts] [Cert.Pre_finite.Facts] : Cert.quiescent_ReferenceIdeal_pre_finite :=
  fun m g _ => frame_ref m g trivial

theorem algebraic [Cert.KernelIdeal.Facts] [Cert.ReferenceIdeal.Facts] [Cert.Pre_finite.Facts] [Cert.On_latent_rows.Facts] :
    Cert.algebraic_KernelIdeal_ReferenceIdeal_on_latent_rows_pre_finite := by
  intro m g m' g' hf hag
  refine ⟨fun c => specArr (P m c), ?_, ?_⟩
  · refine (θ_run Cert.KernelIdeal.defs _ _).mono (fun r h c => ⟨fun i hi => ?_, (h.1 c).2⟩) (run (F := Ideal) m g)
    rw [(h.1 c).1, final m c (finite_iff _ (hf c))]
    exact if_pos (latent_iff _ i hi)
  · refine (θ_run _ _ _).mono (fun r h c => ⟨fun i hi => ?_, (h c).2⟩) (Cert.ReferenceIdeal.Value.run m' g')
    have hr := latent_iff _ i hi
    rw [(h c).1, res_eq, hag c]
    idx_vars i
    have := ref_at (finite_iff _ (hf c)) ⟨i0.val, hr⟩ ⟨i1.val / 512, by omega⟩ ⟨i1.val % 512 / 128, by omega⟩ ⟨i1.val % 128, by omega⟩
    refine Eq.trans (congrArg (fun x => refOut (refAtt (P m c)) (refGate (P m c)) (ix2 i0 x)) (Fin.ext ?_)) this
    dsimp only
    omega

end Cert.Gqa

end
-- ==== Proof.LastSpec.lean ====
module

public import proofs.«01_k».proof.Proof.Gen.Reference2Ideal.Run
public import Idealize.ShloMosaic.Lib.Pipeline.ValueKit

@[expose] public section
set_option maxRecDepth 16384
noncomputable section
open Idealize.ShloMosaic Idealize.ShloMosaic.TcCoe Idealize.SL.Sem
open Cert.Reference2Ideal Cert.Reference2Ideal.Gen

/-! # The end of the model: the last layer's output projection and the final norm -/

namespace Cert.Last

/-- The hidden row after the last layer: the row before it, and the gated product of the mixer's row with the layer's
    output weights. -/
def hid (X : FVec Ideal S16640x2048 .f32) (Y : FVec Ideal S16640x2048 .bf16) (W : FVec Ideal S2x2048x2048 .f32)
    (M : FVec Ideal S4x8x6144 .f32) (r : Fin 16384) (k : Fin 2048) : EReal :=
  X (ix2 ⟨r.val, by omega⟩ k) + M (ix3 3 0 ⟨4096 + k.val, by omega⟩) * ∑ j : Fin 2048, Y (ix2 ⟨r.val, by omega⟩ j) * W (ix3 1 j k)

/-- The model's result at a row and a column: the hidden row over its root mean square, times the final gain. -/
def res (X : FVec Ideal S16640x2048 .f32) (Y : FVec Ideal S16640x2048 .bf16) (W : FVec Ideal S2x2048x2048 .f32)
    (M : FVec Ideal S4x8x6144 .f32) (G : FVec Ideal S2048 .f32) (r : Fin 16384) (d : Fin 2048) : EReal :=
  hid X Y W M r d
    * Ideal.rsqrt (Ideal.div (∑ k : Fin 2048, hid X Y W M r k * hid X Y W M r k) (Ideal.ofBits .f32 0x45000000#32)
        + Ideal.ofBits .f32 0x358637BD#32)
    * G (ix1 d)

/-- The result as an array. -/
def resArr (X : FVec Ideal S16640x2048 .f32) (Y : FVec Ideal S16640x2048 .bf16) (W : FVec Ideal S2x2048x2048 .f32)
    (M : FVec Ideal S4x8x6144 .f32) (G : FVec Ideal S2048 .f32) : FVec Ideal S16384x2048 .f32 :=
  fun y => res X Y W M G (y 0) (y 1)

end Cert.Last
end
-- ==== Proof.LastKernel.lean ====
module

public import proofs.«01_k».proof.Proof.LastSpec
public import proofs.«01_k».proof.Proof.Gen.Kernel2Ideal.Value

@[expose] public section
set_option maxRecDepth 16384
set_option maxHeartbeats 4000000
noncomputable section
open Idealize.ShloMosaic Idealize.ShloMosaic.TcCoe Idealize.SL.Sem
open Idealize.ShloMosaic.Pipeline (Dat)
open Cert.Kernel2Ideal.Gen Cert.Last

/-! # What the kernel computes: the last output projection, point by point -/

namespace Cert.Kernel2Ideal.Value

variable (m : (ℓ : Loc nD τ sig) → Buf (Elt Ideal) ℓ)

/-- Where the blocks of a point lie. -/
theorem idx : ∀ t : Fin cfg0.N, (grid0.coords t 0).val = t.val ∧ win0_0.index t = ![t.val, 0] ∧ win0_1.index t = ![t.val, 0]
    ∧ win0_2.index t = ![0, 0] ∧ win0_3.index t = ![0, 0] ∧ win0_4.index t = ![0, 0] ∧ win0_5.index t = ![t.val, 0] :=
  (by decide +kernel : ∀ t : Fin grid0.N, _)

/-- Every point treats latent rows. -/
theorem point_latent : ∀ t : Fin cfg0.N,
    Scalar.cmpi .sge (Scalar.muli (BitVec.ofNat 32 (grid0.coords t 0).val) 256#32) 16384#32 = 0#1 :=
  (by decide +kernel : ∀ t : Fin grid0.N, _)
/-- Every row of a point is a latent row. -/
theorem row_latent : ∀ (t : Fin cfg0.N) (r : Fin 256),
    IntOp.cmpi CmpIPredicate.sge (IntOp.addi (Scalar.muli (BitVec.ofNat 32 (grid0.coords t 0).val) 256#32)
      (BitVec.ofNat 32 r.val)) 16384#32 = 0#1 :=
  (by decide +kernel : ∀ (t : Fin grid0.N) (r : Fin 256), _)

/-- The result array after the run. -/
theorem final (c : Dev nD) : (dats m 0 c).arrAt 5 (cfgs 0).N
    = resArr (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (dats m 0 c).arrAt_eq_of_covers 5 _ (by decide +kernel) fun t _ y => ?_
  idx_vars y
  blk_simp
  rw [after0_5]
  frame_out
  pointwise [k0_pay1, resArr, res, hid, point_latent t, row_latent t y0]
  blk_point [iblk, V, idx t]

end Cert.Kernel2Ideal.Value
end
-- ==== Proof.LastRef.lean ====
module

public import proofs.«01_k».proof.Proof.LastSpec

@[expose] public section
set_option maxRecDepth 16384
noncomputable section
open Idealize.ShloMosaic Idealize.ShloMosaic.TcCoe Idealize.SL.Sem
open Cert.Reference2Ideal Cert.Reference2Ideal.Gen

/-! # What the reference computes -/

namespace Cert.Last

/-- The reference's term over its arguments. -/
def refTerm (X : FVec Ideal S16640x2048 .f32) (Y : FVec Ideal S16640x2048 .bf16) (W : FVec Ideal S2x2048x2048 .f32)
    (M : FVec Ideal S4x8x6144 .f32) (G : FVec Ideal S2048 .f32) : FVec Ideal S16384x2048 .f32 :=
  mulf (mulf (addf (extractStridedSlice S16384x2048 ![0, 0] X slices_S16640x2048_S16384x2048_0_0) (mulf (broadcastInDim S16384x2048 ![0, 1] bcast_S1x2048_S16384x2048_0_1 (broadcastInDim S1x2048 ![1] bcast_S2048_S1x2048_1 (extractStridedSlice S2048 ![4096] (shapeCast _ (extractStridedSlice S1x1x6144 ![3, 0, 0] M slices_S4x8x6144_S1x1x6144_3_0_0) shapeCasts_S1x1x6144_S6144) slices_S6144_S2048_4096))) (Host.dotGeneral dot_S16384x2048_S2048x2048_S16384x2048_1_0_0_1_n_n none (extf .f32 (extractStridedSlice S16384x2048 ![0, 0] Y slices_S16640x2048_S16384x2048_0_0) bitsLt_bf16_f32) (shapeCast _ (extractStridedSlice S1x2048x2048 ![1, 0, 0] W slices_S2x2048x2048_S1x2048x2048_1_0_0) shapeCasts_S1x2048x2048_S2048x2048)))) (broadcastInDim S16384x2048 ![0, 1] bcast_S16384x1_S16384x2048_0_1 (Host.rsqrt (addf (Host.divf (broadcastInDim S16384x1 ![0] bcast_S16384_S16384x1_0 (Host.reduceAdd (mulf (addf (extractStridedSlice S16384x2048 ![0, 0] X slices_S16640x2048_S16384x2048_0_0) (mulf (broadcastInDim S16384x2048 ![0, 1] bcast_S1x2048_S16384x2048_0_1 (broadcastInDim S1x2048 ![1] bcast_S2048_S1x2048_1 (extractStridedSlice S2048 ![4096] (shapeCast _ (extractStridedSlice S1x1x6144 ![3, 0, 0] M slices_S4x8x6144_S1x1x6144_3_0_0) shapeCasts_S1x1x6144_S6144) slices_S6144_S2048_4096))) (Host.dotGeneral dot_S16384x2048_S2048x2048_S16384x2048_1_0_0_1_n_n none (extf .f32 (extractStridedSlice S16384x2048 ![0, 0] Y slices_S16640x2048_S16384x2048_0_0) bitsLt_bf16_f32) (shapeCast _ (extractStridedSlice S1x2048x2048 ![1, 0, 0] W slices_S2x2048x2048_S1x2048x2048_1_0_0) shapeCasts_S1x2048x2048_S2048x2048)))) (addf (extractStridedSlice S16384x2048 ![0, 0] X slices_S16640x2048_S16384x2048_0_0) (mulf (broadcastInDim S16384x2048 ![0, 1] bcast_S1x2048_S16384x2048_0_1 (broadcastInDim S1x2048 ![1] bcast_S2048_S1x2048_1 (extractStridedSlice S2048 ![4096] (shapeCast _ (extractStridedSlice S1x1x6144 ![3, 0, 0] M slices_S4x8x6144_S1x1x6144_3_0_0) shapeCasts_S1x1x6144_S6144) slices_S6144_S2048_4096))) (Host.dotGeneral dot_S16384x2048_S2048x2048_S16384x2048_1_0_0_1_n_n none (extf .f32 (extractStridedSlice S16384x2048 ![0, 0] Y slices_S16640x2048_S16384x2048_0_0) bitsLt_bf16_f32) (shapeCast _ (extractStridedSlice S1x2048x2048 ![1, 0, 0] W slices_S2x2048x2048_S1x2048x2048_1_0_0) shapeCasts_S1x2048x2048_S2048x2048))))) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 G))

theorem refTerm_eq (X : FVec Ideal S16640x2048 .f32) (Y : FVec Ideal S16640x2048 .bf16) (W : FVec Ideal S2x2048x2048 .f32)
    (M : FVec Ideal S4x8x6144 .f32) (G : FVec Ideal S2048 .f32) : refTerm X Y W M G = resArr X Y W M G := by
  funext y
  idx_vars y
  unfold refTerm
  pointwise []
  rfl

end Cert.Last
end
-- ==== Proof.LastPair.lean ====
module

public import proofs.«01_k».proof.Defs
public import proofs.«01_k».proof.Proof.LastKernel
public import proofs.«01_k».proof.Proof.LastRef
public import Idealize.ShloMosaic.Lib.Claim
public import Idealize.ShloMosaic.Lib.Quiescent

@[expose] public section
set_option maxRecDepth 16384
noncomputable section
open Idealize.ShloMosaic Idealize.ShloMosaic.TcCoe Idealize.SL.Sem

/-! # The value claim of the last output projection: the kernel's result is the reference's -/

namespace Cert.Last

theorem algebraic [hK : Cert.Kernel2Ideal.Facts] [hR : Cert.Reference2Ideal.Facts] : algebraic_Kernel2Ideal_Reference2Ideal := by
  pair_intro
  · run_from Cert.Kernel2Ideal.Value.run_blocks m g
  · run_from Cert.Reference2Ideal.Value.run m' g'
    refine Eq.trans (refTerm_eq _ _ _ _ _) ?_
    exact (Cert.Kernel2Ideal.Value.final m c).symm

/-- The reference's frame: the same run, and the program has no semaphores. -/
theorem frame_ref [hR : Cert.Reference2Ideal.Facts] : quiescent_Reference2Ideal := fun m g _ =>
  (θ_run _ _ _).mono (fun r h => ⟨fun c => (h c).2, sem_eq_zero_of_no_sems (by decide) r.2⟩)
    (Cert.Reference2Ideal.Value.run m g)

end Cert.Last
end
-- ==== Proof.DiffSweep.lean ====
module

public import proofs.«01_k».proof.Proof.GqaSweep
public import proofs.«01_k».proof.Proof.Gen.Kernel3Ideal.Loops

/-! The differential attention's sweep over the keys.

Its trips are the other attention's, on other queries: the lists of stores its loop is known by leave
in the scratch buffers what `Cert.Gqa.sweep` says. -/

@[expose] public section

set_option maxRecDepth 16384

noncomputable section

namespace Cert.Diff

open Cert.Kernel3Ideal Cert.Kernel3Ideal.Gen
open Cert.Gqa (Carry trip sweep)
open Idealize.ShloMosaic Idealize.ShloMosaic.TcCoe Idealize.SL.Sem

variable {F : FTy → Type} [FloatOps F]

section Stores

variable (c : Dev nD) (i : grid0.Coords)
  (arg2 : Memref sig .tc .vmem S4x64 .f32) (harg2 : arg2.IsWhole)
  (arg3 : Memref sig .tc .vmem S1x128 .f32) (harg3 : arg3.IsWhole)
  (arg4 : Memref sig .tc .vmem S512x128 .bf16) (harg4 : arg4.IsWhole)
  (arg5 : Memref sig .tc .vmem S16640x128 .bf16) (harg5 : arg5.IsWhole)
  (arg6 : Memref sig .tc .vmem S1x13x128x1280 .bf16) (harg6 : arg6.IsWhole)
  (arg7 : Memref sig .tc .vmem S512x128 .bf16) (harg7 : arg7.IsWhole)
  (arg8 : Memref sig .tc .vmem S512x128 .bf16) (harg8 : arg8.IsWhole)
  (arg9 : Memref sig .tc .vmem S1280x1024 .f32) (harg9 : arg9.IsWhole)
  (arg10 : Memref sig .tc .vmem S1280x1024 .f32) (harg10 : arg10.IsWhole)
  (arg11 : Memref sig .tc .vmem S1x1024 .f32) (harg11 : arg11.IsWhole)
  (arg12 : Memref sig .tc .vmem S1x1024 .f32) (harg12 : arg12.IsWhole)
  (arg13 : Memref sig .tc .vmem S128x1024 .f32) (harg13 : arg13.IsWhole)
  (v0 : Vec F S512x128 .bf16)
  (x1 : Vec F S16640x128 .bf16) (x2 : Vec F S1x13x128x1280 .bf16)

/-- What the four scratch buffers hold, read. -/
abbrev held (f9 : BufTy.Contents (Elt F) arg9.view.ty) (f11 : BufTy.Contents (Elt F) arg11.view.ty)
    (f12 : BufTy.Contents (Elt F) arg12.view.ty) (f13 : BufTy.Contents (Elt F) arg13.view.ty) : Carry F :=
  ⟨arg9.view.read (Elt F) f9, arg11.view.read (Elt F) f11, arg12.view.read (Elt F) f12, arg13.view.read (Elt F) f13⟩

/-- The pieces one trip stores into the five scratch buffers, at the contents it finds. -/
abbrev stores (k : Fin k0_t1_loop.trips) (f9 : BufTy.Contents (Elt F) arg9.view.ty) (f10 : BufTy.Contents (Elt F) arg10.view.ty)
    (f11 : BufTy.Contents (Elt F) arg11.view.ty) (f12 : BufTy.Contents (Elt F) arg12.view.ty)
    (f13 : BufTy.Contents (Elt F) arg13.view.ty) :=
  tripL_k0_t1 (F := F) .none c none i arg2 harg2 arg3 harg3 arg4 harg4 arg5 harg5 arg6 harg6 arg7 harg7 arg8 harg8 arg9 harg9 arg10 harg10
    arg11 harg11 arg12 harg12 arg13 harg13 v0 (harg5.unread x1) (harg6.unread x2) k f9 f10 f11 f12 f13

/-- The pieces the first `n` trips store, over the contents the loop is entered with. -/
abbrev allStores (f9 : BufTy.Contents (Elt F) arg9.view.ty) (f10 : BufTy.Contents (Elt F) arg10.view.ty)
    (f11 : BufTy.Contents (Elt F) arg11.view.ty) (f12 : BufTy.Contents (Elt F) arg12.view.ty)
    (f13 : BufTy.Contents (Elt F) arg13.view.ty) (n : ℕ) :=
  pb_k0_t1 (F := F) .none c none i arg2 harg2 arg3 harg3 arg4 harg4 arg5 harg5 arg6 harg6 arg7 harg7 arg8 harg8 arg9 harg9 arg10 harg10
    arg11 harg11 arg12 harg12 arg13 harg13 v0 (harg5.unread x1) (harg6.unread x2) f9 f10 f11 f12 f13 n

/-- One trip's stores leave what `trip` says. -/
theorem held_stores (k : Fin k0_t1_loop.trips) (f9 : BufTy.Contents (Elt F) arg9.view.ty)
    (f10 : BufTy.Contents (Elt F) arg10.view.ty) (f11 : BufTy.Contents (Elt F) arg11.view.ty)
    (f12 : BufTy.Contents (Elt F) arg12.view.ty) (f13 : BufTy.Contents (Elt F) arg13.view.ty) :
    let L := stores c i arg2 harg2 arg3 harg3 arg4 harg4 arg5 harg5 arg6 harg6 arg7 harg7 arg8 harg8 arg9 harg9 arg10 harg10 arg11 harg11
      arg12 harg12 arg13 harg13 v0 x1 x2 k f9 f10 f11 f12 f13
    held arg9 arg11 arg12 arg13 (arg9.view.writes (Elt F) f9 L.1) (arg11.view.writes (Elt F) f11 L.2.2.1)
        (arg12.view.writes (Elt F) f12 L.2.2.2.1) (arg13.view.writes (Elt F) f13 L.2.2.2.2)
      = trip (k0_pay15 v0) x1 x2 k (held arg9 arg11 arg12 arg13 f9 f11 f12 f13) := by
  dsimp only [stores, tripL_k0_t1, held, trip]
  unfold trip_k0_t1
  rw [Carry.mk.injEq]
  refine ⟨?_, ?_, ?_, ?_⟩
  · frame_out [View.read_writes_full]
    exact View.read_writes_full _ _ _ _ _
  · frame_out [View.read_writes_full]
    exact View.read_writes_full _ _ _ _ _
  · frame_out [View.read_writes_full]
    exact View.read_writes_full _ _ _ _ _
  · frame_out [View.read_writes_full]
    exact View.read_writes_full _ _ _ _ _

/-- The stores of the first `n` trips leave what `sweep` says. -/
theorem held_allStores (f9 : BufTy.Contents (Elt F) arg9.view.ty) (f10 : BufTy.Contents (Elt F) arg10.view.ty)
    (f11 : BufTy.Contents (Elt F) arg11.view.ty) (f12 : BufTy.Contents (Elt F) arg12.view.ty)
    (f13 : BufTy.Contents (Elt F) arg13.view.ty) (n : ℕ) (hn : n ≤ k0_t1_loop.trips) :
    let L := allStores c i arg2 harg2 arg3 harg3 arg4 harg4 arg5 harg5 arg6 harg6 arg7 harg7 arg8 harg8 arg9 harg9 arg10 harg10 arg11 harg11
      arg12 harg12 arg13 harg13 v0 x1 x2 f9 f10 f11 f12 f13 n
    held arg9 arg11 arg12 arg13 (arg9.view.writes (Elt F) f9 L.1) (arg11.view.writes (Elt F) f11 L.2.2.1)
        (arg12.view.writes (Elt F) f12 L.2.2.2.1) (arg13.view.writes (Elt F) f13 L.2.2.2.2)
      = sweep (k0_pay15 v0) x1 x2 (held arg9 arg11 arg12 arg13 f9 f11 f12 f13) n := by
  induction n with
  | zero => rfl
  | succ n ih =>
    have h := pb_k0_t1_succ (F := F) .none c none i arg2 harg2 arg3 harg3 arg4 harg4 arg5 harg5 arg6 harg6 arg7 harg7 arg8 harg8 arg9 harg9 arg10
      harg10 arg11 harg11 arg12 harg12 arg13 harg13 v0 (harg5.unread x1) (harg6.unread x2) f9 f10 f11 f12 f13 ⟨n, hn⟩
    dsimp only [allStores] at ih ⊢
    rw [h]
    dsimp only
    rw [View.writes_append, View.writes_append, View.writes_append, View.writes_append]
    refine (held_stores c i arg2 harg2 arg3 harg3 arg4 harg4 arg5 harg5 arg6 harg6 arg7 harg7 arg8 harg8 arg9 harg9 arg10 harg10 arg11 harg11
      arg12 harg12 arg13 harg13 v0 x1 x2 ⟨n, hn⟩ _ _ _ _ _).trans ?_
    rw [sweep]
    split
    · exact congrArg _ (ih (Nat.le_of_succ_le hn))
    · exact absurd hn ‹_›

end Stores

end Cert.Diff

end
-- ==== Proof.DiffRun.lean ====
module

public import proofs.«01_k».proof.Proof.DiffSweep
public import proofs.«01_k».proof.Proof.Gen.Kernel3Ideal.Frame.Runs
public import Idealize.ShloMosaic.Lib.Claim

/-! The body of the differential attention, run once.

From its six input blocks the body computes the output block `out`: the block's two halves of the queries laid
one under the other, the sweep over the keys, the last chunk, and the difference of the two quotients, normed
and times the gate. -/

@[expose] public section

set_option maxRecDepth 16384

noncomputable section

namespace Cert.Diff

open Cert.Kernel3Ideal Cert.Kernel3Ideal.Gen
open Cert.Gqa (Carry sweep start sweptOf totalOf weightOf)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (xl : Vec F S4x64 .f32) (xn : Vec F S1x128 .f32) (xq : Vec F S512x128 .bf16) (x1 : Vec F S16640x128 .bf16)
  (x2 : Vec F S1x13x128x1280 .bf16) (xg : Vec F S512x128 .bf16)

/-- The output block from the two sums and the other blocks. -/
abbrev outOf (A : Vec F S128x1024 .f32) (l : Vec F S1x1024 .f32) : Vec F S512x128 .bf16 :=
  k0_pay1 (k0_pay29 A l xl xn) (k0_pay30 xg) (k0_pay31 xg)

/-- The output block. -/
def out : Vec F S512x128 .bf16 := outOf xl xn xg (totalOf (k0_pay15 xq) x1 x2) (weightOf (k0_pay15 xq) x1 x2)

/-- What the four scratch buffers hold after the loop, whatever the fifth holds before it. -/
theorem held_loop (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S512x128 .bf16) (harg4 : arg4.IsWhole) (arg5 : Memref sig .tc .vmem S16640x128 .bf16) (harg5 : arg5.IsWhole) (arg6 : Memref sig .tc .vmem S1x13x128x1280 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S1280x1024 .f32) (harg9 : arg9.IsWhole) (arg10 : Memref sig .tc .vmem S1280x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole)
    (f10 : BufTy.Contents (Elt F) arg10.view.ty) :
    let I9 : List (View.Piece (Elt F) S1280x1024 .f32) := [⟨Rect.unit (s := S1280x1024) ![0, 0] S1280x1024.size inb_S1280x1024_S1280x1024_0_0, (start (k0_pay15 xq) x1).s⟩]
    let I11 : List (View.Piece (Elt F) S1x1024 .f32) := [⟨Rect.unit (s := S1x1024) ![0, 0] S1x1024.size inb_S1x1024_S1x1024_0_0, (start (k0_pay15 xq) x1).m⟩]
    let I12 : List (View.Piece (Elt F) S1x1024 .f32) := [⟨Rect.unit (s := S1x1024) ![0, 0] S1x1024.size inb_S1x1024_S1x1024_0_0, (start (k0_pay15 xq) x1).l⟩]
    let I13 : List (View.Piece (Elt F) S128x1024 .f32) := [⟨Rect.unit (s := S128x1024) ![0, 0] S128x1024.size inb_S128x1024_S128x1024_0_0, (start (k0_pay15 xq) x1).a⟩]
    let L := allStores c i arg2 harg2 arg3 harg3 arg4 harg4 arg5 harg5 arg6 harg6 arg7 harg7 arg8 harg8 arg9 harg9 arg10 harg10 arg11 harg11
      arg12 harg12 arg13 harg13 xq x1 x2
      (arg9.view.writes (Elt F) arg9.view.junk I9) f10 (arg11.view.writes (Elt F) arg11.view.junk I11)
      (arg12.view.writes (Elt F) arg12.view.junk I12) (arg13.view.writes (Elt F) arg13.view.junk I13) k0_t1_loop.trips
    held arg9 arg11 arg12 arg13 (arg9.view.writes (Elt F) arg9.view.junk (L.1 ++ I9))
        (arg11.view.writes (Elt F) arg11.view.junk (L.2.2.1 ++ I11))
        (arg12.view.writes (Elt F) arg12.view.junk (L.2.2.2.1 ++ I12))
        (arg13.view.writes (Elt F) arg13.view.junk (L.2.2.2.2 ++ I13))
      = sweptOf (k0_pay15 xq) x1 x2 := by
  intro I9 I11 I12 I13 L
  rw [View.writes_append, View.writes_append, View.writes_append, View.writes_append]
  refine (held_allStores c i arg2 harg2 arg3 harg3 arg4 harg4 arg5 harg5 arg6 harg6 arg7 harg7 arg8 harg8 arg9 harg9 arg10 harg10 arg11 harg11
    arg12 harg12 arg13 harg13 _ x1 x2 _ f10 _ _ _ _ le_rfl).trans ?_
  refine congrArg (fun p => sweep (k0_pay15 xq) x1 x2 p k0_t1_loop.trips) ?_
  rw [Carry.mk.injEq]
  exact ⟨View.read_writes_full _ _ _ _ _, View.read_writes_full _ _ _ _ _, View.read_writes_full _ _ _ _ _,
    View.read_writes_full _ _ _ _ _⟩

set_option maxHeartbeats 4000000 in
/-- The body's triple: on whole staging buffers holding the six blocks it leaves them as they were
    and the output's buffer at `out`. -/
theorem body_run (c : Dev nD) (i : grid0.Coords) (arg2 : Memref sig .tc .vmem S4x64 .f32) (harg2 : arg2.IsWhole) (arg3 : Memref sig .tc .vmem S1x128 .f32) (harg3 : arg3.IsWhole) (arg4 : Memref sig .tc .vmem S512x128 .bf16) (harg4 : arg4.IsWhole) (arg5 : Memref sig .tc .vmem S16640x128 .bf16) (harg5 : arg5.IsWhole) (arg6 : Memref sig .tc .vmem S1x13x128x1280 .bf16) (harg6 : arg6.IsWhole) (arg7 : Memref sig .tc .vmem S512x128 .bf16) (harg7 : arg7.IsWhole) (arg8 : Memref sig .tc .vmem S512x128 .bf16) (harg8 : arg8.IsWhole) (arg9 : Memref sig .tc .vmem S1280x1024 .f32) (harg9 : arg9.IsWhole) (arg10 : Memref sig .tc .vmem S1280x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S128x1024 .f32) (harg13 : arg13.IsWhole)
    (E : Set ℕ) (K : PUnit → sProp 𝕄) :
    iprop(owns (c : Thread nD τ) arg2 fullShare xl ∗ owns (c : Thread nD τ) arg3 fullShare xn ∗ owns (c : Thread nD τ) arg4 fullShare xq ∗ owns (c : Thread nD τ) arg5 fullShare x1 ∗ owns (c : Thread nD τ) arg6 fullShare x2 ∗ owns (c : Thread nD τ) arg7 fullShare xg
        ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare xl ∗ owns (c : Thread nD τ) arg3 fullShare xn ∗ owns (c : Thread nD τ) arg4 fullShare xq ∗ owns (c : Thread nD τ) arg5 fullShare x1 ∗ owns (c : Thread nD τ) arg6 fullShare x2 ∗ owns (c : Thread nD τ) arg7 fullShare xg
            ∗ owns (c : Thread nD τ) arg8 fullShare (out xl xn xq x1 x2 xg)
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0_diff_attention i arg2 harg2 arg3 harg3 arg4 harg4 arg5 harg5 arg6 harg6 arg7 harg7 arg8 harg8 arg9 harg9 arg10 harg10 arg11 harg11 arg12 harg12 arg13 harg13) K := by
  simp only [cc0_diff_attention_eq_skeleton]; unfold cc0_diff_attention_skel
  simp only [k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    refine (View.read_writes_full _ _ _ _ _).trans ?_
    frame_out
    have h := held_loop xq x1 x2 c i arg2 harg2 arg3 harg3 arg4 harg4 arg5 harg5 arg6 harg6 arg7 harg7 arg8 harg8 arg9 harg9 arg10 harg10 arg11 harg11 arg12 harg12 arg13 harg13 fs1
    have hs := (View.readAt_full arg9.view _ inb_S1280x1024_S1280x1024_0_0).trans (congrArg Carry.s h)
    have hm := (View.readAt_full arg11.view _ inb_S1x1024_S1x1024_0_0).trans (congrArg Carry.m h)
    have hl := (View.readAt_full arg12.view _ inb_S1x1024_S1x1024_0_0).trans (congrArg Carry.l h)
    have ha := (View.readAt_full arg13.view _ inb_S128x1024_S128x1024_0_0).trans (congrArg Carry.a h)
    refine congrArg₂ (fun A l => outOf xl xn xg A l) ?_ ?_
    · refine Eq.trans (congrArg (fun s => k0_pay28 s _ _ _) hs) ?_
      refine Eq.trans (congrArg (fun s => k0_pay28 _ s _ _) hm) ?_
      exact congrArg (fun s => k0_pay28 _ _ s _) ha
    · refine Eq.trans (congrArg (fun s => k0_pay26 s _ _) hs) ?_
      refine Eq.trans (congrArg (fun s => k0_pay26 _ s _) hm) ?_
      exact congrArg (fun s => k0_pay26 _ _ s) hl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.Diff

end
-- ==== Proof.DiffFrame.lean ====
module

public import proofs.«01_k».proof.Proof.DiffRun

/-! The differential attention's launch.

The body's triple holds at every point of the grid with the blocks the pipeline brings, so the whole
call ends, its arguments are as they were, every counter is at zero, and the result's array is what the
library makes of the blocks `out`. -/

@[expose] public section

set_option maxRecDepth 16384

noncomputable section

namespace Cert.Diff

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block of grid point `t`. -/
def outAt (c : Dev nD) (t : Fin cfg0.N) : Vec F S512x128 .bf16 :=
  out (iblk m c 0 t) (iblk m c 1 t) (X0_2 m c t) (iblk m c 3 t) (iblk m c 4 t) (X0_5 m c t)

/-- The pipeline's data: every input's buffer at its block, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => X0_5 m c t
    | ⟨6, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_l (c : Dev nD) (t : Fin cfg0.N) : (dats m 0 c).after 0 t = iblk m c 0 t := by dsimp only [dats]
theorem after_n (c : Dev nD) (t : Fin cfg0.N) : (dats m 0 c).after 1 t = iblk m c 1 t := by dsimp only [dats]
theorem after_q (c : Dev nD) (t : Fin cfg0.N) : (dats m 0 c).after 2 t = X0_2 m c t := by dsimp only [dats]
theorem after_k (c : Dev nD) (t : Fin cfg0.N) : (dats m 0 c).after 3 t = iblk m c 3 t := by dsimp only [dats]
theorem after_v (c : Dev nD) (t : Fin cfg0.N) : (dats m 0 c).after 4 t = iblk m c 4 t := by dsimp only [dats]
theorem after_g (c : Dev nD) (t : Fin cfg0.N) : (dats m 0 c).after 5 t = X0_5 m c t := by dsimp only [dats]
theorem after_o (c : Dev nD) (t : Fin cfg0.N) : (dats m 0 c).after 6 t = outAt m c t := by dsimp only [dats]

theorem before_l (c : Dev nD) (t : Fin cfg0.N) (d) : (dats m 0 c).before 0 t d = iblk m c 0 t :=
  before0_0_of m (dats m 0 c) (A_eq m c 0) (after_l m c) t d
theorem before_n (c : Dev nD) (t : Fin cfg0.N) (d) : (dats m 0 c).before 1 t d = iblk m c 1 t :=
  before0_1_of m (dats m 0 c) (A_eq m c 1) (after_n m c) t d
theorem before_q (c : Dev nD) (t : Fin cfg0.N) (d) : (dats m 0 c).before 2 t d = X0_2 m c t :=
  before0_2_of m (dats m 0 c) (A_eq m c 2) (after_q m c) t d
theorem before_k (c : Dev nD) (t : Fin cfg0.N) (d) : (dats m 0 c).before 3 t d = iblk m c 3 t :=
  before0_3_of m (dats m 0 c) (A_eq m c 3) (after_k m c) t d
theorem before_v (c : Dev nD) (t : Fin cfg0.N) (d) : (dats m 0 c).before 4 t d = iblk m c 4 t :=
  before0_4_of m (dats m 0 c) (A_eq m c 4) (after_v m c) t d
theorem before_g (c : Dev nD) (t : Fin cfg0.N) (d) : (dats m 0 c).before 5 t d = X0_5 m c t :=
  before0_5_of m (dats m 0 c) (A_eq m c 5) (after_g m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it gives back. -/
def post (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at a point of the grid. -/
theorem sound (c : Dev nD) (t : Fin cfg0.N) :
    pre m c t ⊢ wp frame (wpE (defs₀ (F := F)) Variants.none c none) Set.univ (bodyAt0 t) (fun _ => post m c t) := by
  unfold pre post bodyAt0
  simp only [before_l, before_n, before_q, before_k, before_v, before_g]
  rw [show (dats m 0 c).Φ t.succ = (dats m 0 c).Φ t.castSucc from rfl,
    show (dats m 0 c).owesAt () t.succ = (dats m 0 c).owesAt () t.castSucc from rfl,
    after_l, after_n, after_q, after_k, after_v, after_g, after_o]
  rw [show (dats m 0 c).Φ t.castSucc = Pipeline.ΦA spec0 c from rfl, PhiA0_eq]
  unfold outAt
  iintro ⟨⟨⟨S0, S1, S2, S3, S4⟩, Hg⟩, Ho, ⟨%_, B0⟩, ⟨%_, B1⟩, ⟨%_, B2⟩, ⟨%_, B3⟩, ⟨%_, B4⟩, ⟨%_, B5⟩, ⟨%_, B6⟩⟩
  iapply (body_run (iblk m c 0 t) (iblk m c 1 t) (X0_2 m c t) (iblk m c 3 t) (iblk m c 4 t) (X0_5 m c t) c (grid0.coords t)
    _ _ _ _ _ _ _ _ _ _ _ _ _ _ _ _ _ _ _ _ _ _ _ _ Set.univ _)
  isplitl [B0]; · iexact B0
  isplitl [B1]; · iexact B1
  isplitl [B2]; · iexact B2
  isplitl [B3]; · iexact B3
  isplitl [B4]; · iexact B4
  isplitl [B5]; · iexact B5
  isplitl [B6]; · iexists _; iexact B6
  isplitl [S0]; · iexact S0
  isplitl [S1]; · iexact S1
  isplitl [S2]; · iexact S2
  isplitl [S3]; · iexact S3
  isplitl [S4]; · iexact S4
  iintro ⟨B0, B1, B2, B3, B4, B5, B6, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [B0]; · iexact B0
  isplitl [B1]; · iexact B1
  isplitl [B2]; · iexact B2
  isplitl [B3]; · iexact B3
  isplitl [B4]; · iexact B4
  isplitl [B5]; · iexact B5
  iexact B6

/-- The library's obligation. -/
theorem obligation (c : Dev nD) : BodyObligation (dats (F := F) m 0 c) (defs₀ (F := F)) Variants.none () Set.univ := fun t => by
  rw [bigSep_W0, bigSep_W0]
  rw [show defs₀ (F := F) .tc cfg0.body (cfg0.bodyArgs t (cfg0.slots t)) = bodyAt0 t by unfold defs₀; rw [Defs.onTc_tc]]
  exact triple_restated (sound m c t) rfl .rfl fun _ => .rfl

set_option backward.isDefEq.respectTransparency.types false in
/-- The launch. -/
theorem launch : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

/-- The whole call: its arguments are as they were, the counters are at zero, and the result's array is
    what the output blocks make it. -/
theorem run : θ_run defs (onTc (τ := τ) (main (F := F))) ⟨m, fun _ => 0, ρ⟩ (fun r =>
    (∀ c : Dev nD, r.2.mem ((c.tc : Thread nD τ).loc main_v4) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) := by
  refine (θ_run defs _ _).mono (fun r h => ⟨fun c => ⟨(h.1 c).1 6, ?_, ?_, ?_⟩, h.2⟩) (launch m ρ)
  · exact ((h.1 c).1 5).trans (((dats m 0 c).arrAt_in 5 rfl _).trans ((A_eq m c 5).trans (V_main_arg0 m c)))
  · exact ((h.1 c).1 0).trans (((dats m 0 c).arrAt_in 0 rfl _).trans ((A_eq m c 0).trans (V_main_arg1 m c)))
  · exact ((h.1 c).2 main_arg2 (Pipeline.mem_restRefs_of main_arg2 (by decide) (by decide))).trans (V_main_arg2 m c)

end Cert.Diff

end
-- ==== Proof.DiffSpec.lean ====
module

public import proofs.«01_k».proof.Proof.GqaSpec

/-! Differential attention with a norm and a gate, as a function of real numbers.

A row of the projection holds, per head, two query halves of 64 columns; 1024 columns on the key halves
in the same order; then 8 heads of 128 values and 8 heads of 128 columns of the gate.  Scores are in units of
the logarithm of two. -/

@[expose] public section

noncomputable section

namespace Cert.Diff

open Cert.Online
open Cert.Gqa (gate)
open Idealize.ShloMosaic

/-- The score of key `k` for row `r`'s query half `e` of head `h`. -/
def score (ρ : ℕ → ℕ → ℝ) (r h e k : ℕ) : ℝ :=
  ∑ x : Fin 64, ρ k (1024 + 128 * h + 64 * e + x.val) * ρ r (128 * h + 64 * e + x.val)

/-- The difference of the two halves' attentions, the second taken `l` times. -/
def diff (ρ : ℕ → ℕ → ℝ) (l : ℝ) (r h d : ℕ) : ℝ :=
  att (score ρ r h 0) (fun k => ρ k (2048 + 128 * h + d)) 16640
    - l * att (score ρ r h 1) (fun k => ρ k (2048 + 128 * h + d)) 16640

/-- A number of a row of 128 over the row's root mean square, times a gain `n` and a constant `κ`. -/
def normed (f : Fin 128 → EReal) (n κ : EReal) (d : Fin 128) : EReal :=
  f d * Ideal.rsqrt (Ideal.div (∑ e : Fin 128, f e * f e) (Ideal.ofBits .f32 0x43000000#32) + Ideal.ofBits .f32 0x358637BD#32)
    * n * κ

/-- The difference normed, times the gate. -/
def spec (ρ : ℕ → ℕ → ℝ) (l : ℝ) (n : Fin 128 → EReal) (κ : EReal) (r h : ℕ) (d : Fin 128) : EReal :=
  normed (fun e => (diff ρ l r h e.val : EReal)) (n d) κ d * gate (ρ r (3072 + 128 * h + d.val))

/-- The factor of the second half, from the four rows of its parameters and a constant `ι`. -/
def factor (L : FVec Ideal (⟨2, ![4, 64]⟩ : Shape) .f32) (ι : EReal) : EReal :=
  Ideal.exp (∑ x : Fin 64, L (ix2 0 x) * L (ix2 1 x)) - Ideal.exp (∑ x : Fin 64, L (ix2 2 x) * L (ix2 3 x)) + ι

/-- Of finite parameters the factor is a real number. -/
theorem factor_real {L : FVec Ideal (⟨2, ![4, 64]⟩ : Shape) .f32} (hL : ∀ i, (L i : EReal) ≠ ⊥ ∧ (L i : EReal) ≠ ⊤)
    {ι : EReal} {z : ℝ} (hz : ι = (z : EReal)) : factor L ι = ((factor L ι).toReal : EReal) := by
  have hs : ∀ a b : Fin 4, ∑ x : Fin 64, L (ix2 a x) * L (ix2 b x)
      = ((∑ x : Fin 64, (L (ix2 a x)).toReal * (L (ix2 b x)).toReal : ℝ) : EReal) := fun a b => by
    rw [coe_sum]
    refine Finset.sum_congr rfl fun x _ => ?_
    rw [EReal.coe_mul, EReal.coe_toReal (hL _).2 (hL _).1, EReal.coe_toReal (hL _).2 (hL _).1]
  rw [factor, hs, hs, Ideal.exp_coe, Ideal.exp_coe, hz, ← EReal.coe_sub, ← EReal.coe_add, EReal.toReal_coe]

/-- The real numbers an array of finite entries holds. -/
def rho (p : FVec Ideal (⟨2, ![16640, 7168]⟩ : Shape) .bf16) (r k : ℕ) : ℝ :=
  if h : r < 16640 ∧ k < 7168 then EReal.toReal (p (ix2 ⟨r, h.1⟩ ⟨k, h.2⟩)) else 0

theorem rho_eq {p : FVec Ideal (⟨2, ![16640, 7168]⟩ : Shape) .bf16} (hp : ∀ i, (p i : EReal) ≠ ⊥ ∧ (p i : EReal) ≠ ⊤)
    (r : Fin 16640) (k : Fin 7168) : p (ix2 r k) = (rho p r.val k.val : EReal) := by
  rw [rho, dif_pos ⟨r.isLt, k.isLt⟩]
  exact (EReal.coe_toReal (hp _).2 (hp _).1).symm

/-- The result, as an array. -/
def specArr (p : FVec Ideal (⟨2, ![16640, 7168]⟩ : Shape) .bf16) (L : FVec Ideal (⟨2, ![4, 64]⟩ : Shape) .f32)
    (n : FVec Ideal (⟨1, ![128]⟩ : Shape) .f32) (ι κ : EReal) : FVec Ideal (⟨2, ![16640, 1024]⟩ : Shape) .bf16 :=
  fun y => spec (rho p) (factor L ι).toReal (fun d => n (ix1 d)) κ (y 0).val ((y 1).val / 128) ⟨(y 1).val % 128, Nat.mod_lt _ (by decide)⟩

end Cert.Diff

end
-- ==== Proof.DiffPoint.lean ====
module

public import proofs.«01_k».proof.Proof.SweepPoint
public import proofs.«01_k».proof.Proof.DiffRun
public import proofs.«01_k».proof.Proof.DiffSpec

/-! The body's own steps read at one entry, floats being extended reals. -/

@[expose] public section

set_option maxRecDepth 16384
set_option maxHeartbeats 2000000

noncomputable section

namespace Cert.Diff

open Cert.Kernel3Ideal Cert.Kernel3Ideal.Gen Cert.Online
open Cert.Gqa (totalOf weightOf)
open Idealize.ShloMosaic Idealize.ShloMosaic.TcCoe Idealize.SL.Sem

/-- Row `512 e + r` of the queries is row `r` in the columns of half `e` and zero in the others. -/
theorem queries_at (q : Vec Ideal S512x128 .bf16) (e : Fin 2) (r : Fin 512) (x : Fin 128) :
    k0_pay15 (F := Ideal) q (ix2 ⟨512 * e.val + r.val, by omega⟩ x) = if x.val / 64 = e.val then q (ix2 r x) else 0 := by
  fin_cases e <;> pointwise [k0_pay15]
  · rw [(by decide +kernel : ∀ x : Fin 128, IntOp.cmpi .slt (BitVec.ofNat 32 x.val) 64#32 = if x.val / 64 = 0 then 1#1 else 0#1) x]
    split <;> rfl
  · rw [(by decide +kernel : ∀ x : Fin 128, IntOp.cmpi .sge (BitVec.ofNat 32 x.val) 64#32 = if x.val / 64 = 1 then 1#1 else 0#1) x]
    split <;> rfl

/-- A sum of products with such a row is a sum over the half's columns. -/
theorem half_sum (f g : Fin 128 → EReal) (e : Fin 2) :
    ∑ x : Fin 128, f x * (if x.val / 64 = e.val then g x else 0)
      = ∑ x : Fin 64, f ⟨64 * e.val + x.val, by omega⟩ * g ⟨64 * e.val + x.val, by omega⟩ := by
  rw [show ∑ x : Fin 128, f x * (if x.val / 64 = e.val then g x else 0)
      = ∑ x : Fin (64 + 64), f x * (if x.val / 64 = e.val then g x else 0) from rfl, Fin.sum_univ_add]
  fin_cases e
  · rw [Finset.sum_eq_zero (s := Finset.univ) (f := fun x : Fin 64 => f (Fin.natAdd 64 x) * _) fun x _ => ?_, add_zero]
    · refine Finset.sum_congr rfl fun x _ => ?_
      rw [if_pos (by show x.val / 64 = 0; omega)]
      exact congrArg₂ (· * ·) (congrArg f (Fin.ext (by show x.val = 64 * 0 + x.val; omega))) (congrArg g (Fin.ext (by show x.val = 64 * 0 + x.val; omega)))
    · rw [if_neg (by show ¬ (64 + x.val) / 64 = 0; omega), mul_zero]
  · rw [Finset.sum_eq_zero (s := Finset.univ) (f := fun x : Fin 64 => f (Fin.castAdd 64 x) * _) fun x _ => ?_, zero_add]
    · refine Finset.sum_congr rfl fun x _ => ?_
      rw [if_pos (by show (64 + x.val) / 64 = 1; omega)]
      exact congrArg₂ (· * ·) (congrArg f (Fin.ext (by show 64 + x.val = 64 * 1 + x.val; omega))) (congrArg g (Fin.ext (by show 64 + x.val = 64 * 1 + x.val; omega)))
    · rw [if_neg (by show ¬ x.val / 64 = 1; omega), mul_zero]

/-- The output block at one entry. -/
theorem out_at (xl : Vec Ideal S4x64 .f32) (xn : Vec Ideal S1x128 .f32) (xq : Vec Ideal S512x128 .bf16) (x1 : Vec Ideal S16640x128 .bf16)
    (x2 : Vec Ideal S1x13x128x1280 .bf16) (xg : Vec Ideal S512x128 .bf16) (r : Fin 512) (d : Fin 128) :
    out (F := Ideal) xl xn xq x1 x2 xg (ix2 r d)
      = normed (fun f =>
          Ideal.div (totalOf (k0_pay15 xq) x1 x2 (ix2 f ⟨r.val, by omega⟩)) (weightOf (k0_pay15 xq) x1 x2 (ix2 0 ⟨r.val, by omega⟩))
            - factor xl (Ideal.ofBits .f32 0x3E4CCCCD#32)
              * Ideal.div (totalOf (k0_pay15 xq) x1 x2 (ix2 f ⟨512 + r.val, by omega⟩))
                  (weightOf (k0_pay15 xq) x1 x2 (ix2 0 ⟨512 + r.val, by omega⟩)))
          (xn (ix2 0 d)) (Ideal.ofBits .f32 0x3F4CCCCD#32) d
        * Ideal.div (xg (ix2 r d)) (1 + Ideal.exp (0 - xg (ix2 r d))) := by
  unfold out outOf
  generalize totalOf (F := Ideal) (k0_pay15 xq) x1 x2 = A
  generalize weightOf (F := Ideal) (k0_pay15 xq) x1 x2 = l
  pointwise [k0_pay1, k0_pay29, k0_pay30, k0_pay31]
  rfl

end Cert.Diff

end
-- ==== Proof.DiffKernel.lean ====
module

public import proofs.«01_k».proof.Proof.DiffFrame
public import proofs.«01_k».proof.Proof.DiffPoint

/-! What the differential attention's call leaves in its result: on the latent rows, the function `spec`. -/

@[expose] public section

set_option maxRecDepth 16384
set_option maxHeartbeats 2000000

noncomputable section

namespace Cert.Diff

open Cert.Kernel3Ideal Cert.Kernel3Ideal.Gen Cert.Online
open Cert.Gqa (Reads gate sweep_at totalOf weightOf)
open Idealize.ShloMosaic Idealize.ShloMosaic.TcCoe Idealize.SL.Sem
open Idealize.ShloMosaic.Pipeline (Dat)

variable (m : (ℓ : Loc nD τ sig) → Buf (Elt Ideal) ℓ)

/-- Where the blocks of a point lie. -/
theorem place : ∀ t : Fin cfg0.N, win0_0.index t = ![0, 0] ∧ win0_1.index t = ![0, 0] ∧ win0_2.index t = ![t.val % 32, t.val / 32]
    ∧ win0_3.index t = ![0, 8 + t.val / 32] ∧ win0_4.index t = ![t.val / 32, 0, 0, 0] ∧ win0_5.index t = ![t.val % 32, 24 + t.val / 32]
    ∧ win0_6.index t = ![t.val % 32, t.val / 32] ∧ t.val < 256 :=
  (by decide +kernel : ∀ t : Fin grid0.N, _)

section

variable (c : Dev nD) (t : Fin cfg0.N)

/-- The projection's array, the parameters of the factor and the norm's gain. -/
abbrev P : Vec Ideal S16640x7168 .bf16 := m ((c.tc : Thread nD τ).loc main_arg0)
abbrev L : Vec Ideal S4x64 .f32 := m ((c.tc : Thread nD τ).loc main_arg1)
abbrev N : Vec Ideal S128 .f32 := m ((c.tc : Thread nD τ).loc main_arg2)

theorem block_l : iblk m c 0 t = L m c := by
  funext y
  idx_vars y
  blk_point [iblk, V, place t]

theorem block_n (d : Fin 128) : iblk m c 1 t (ix2 0 d) = N m c (ix1 d) := by
  blk_point [iblk, V, place t]

variable (hp : ∀ i, (P m c i : EReal) ≠ ⊥ ∧ (P m c i : EReal) ≠ ⊤)
include hp

theorem block_q (r : Fin 512) (x : Fin 128) :
    X0_2 m c t (ix2 r x) = (rho (P m c) (512 * (t.val % 32) + r.val) (128 * (t.val / 32) + x.val) : EReal) := by
  have := (place t).2.2.2.2.2.2.2
  refine Eq.trans ?_ (rho_eq hp ⟨512 * (t.val % 32) + r.val, by omega⟩ ⟨128 * (t.val / 32) + x.val, by omega⟩)
  unfold X0_2 Pipeline.Window.fill
  rw [dif_pos (moved0_2 t _)]
  blk_point [iblk, V, place t]

theorem block_k (k : Fin 16640) (x : Fin 128) :
    iblk m c 3 t (ix2 k x) = (rho (P m c) k.val (1024 + 128 * (t.val / 32) + x.val) : EReal) := by
  have := (place t).2.2.2.2.2.2.2
  refine Eq.trans ?_ (rho_eq hp k ⟨1024 + 128 * (t.val / 32) + x.val, by omega⟩)
  blk_point [iblk, V, place t]

theorem block_v (n : Fin 13) (d : Fin 128) (k : Fin 1280) :
    iblk m c 4 t (ix4 0 n d k) = (rho (P m c) (1280 * n.val + k.val) (2048 + 128 * (t.val / 32) + d.val) : EReal) := by
  have := (place t).2.2.2.2.2.2.2
  refine Eq.trans ?_ (rho_eq hp ⟨1280 * n.val + k.val, by omega⟩ ⟨2048 + 128 * (t.val / 32) + d.val, by omega⟩)
  blk_point [iblk, V, place t]

theorem block_g (r : Fin 512) (x : Fin 128) :
    X0_5 m c t (ix2 r x) = (rho (P m c) (512 * (t.val % 32) + r.val) (3072 + 128 * (t.val / 32) + x.val) : EReal) := by
  have := (place t).2.2.2.2.2.2.2
  refine Eq.trans ?_ (rho_eq hp ⟨512 * (t.val % 32) + r.val, by omega⟩ ⟨3072 + 128 * (t.val / 32) + x.val, by omega⟩)
  unfold X0_5 Pipeline.Window.fill
  rw [dif_pos (moved0_5 t _)]
  blk_point [iblk, V, place t]

theorem reads (e : Fin 2) (r : Fin 512) (d : Fin 128) :
    Reads (k0_pay15 (F := Ideal) (X0_2 m c t)) (iblk m c 3 t) (iblk m c 4 t)
      (score (rho (P m c)) (512 * (t.val % 32) + r.val) (t.val / 32) e.val)
      (fun k => rho (P m c) k (2048 + 128 * (t.val / 32) + d.val)) d ⟨512 * e.val + r.val, by omega⟩ := by
  refine ⟨fun k => ?_, fun n k => block_v m c t hp n d k⟩
  rw [score, coe_sum]
  refine (Finset.sum_congr rfl fun x _ => by rw [queries_at]).trans ((half_sum _ _ e).trans ?_)
  refine Finset.sum_congr rfl fun x _ => ?_
  rw [block_k m c t hp, block_q m c t hp, EReal.coe_mul]
  simp only [Nat.add_assoc]

variable {l : ℝ} (hl : factor (L m c) (Ideal.ofBits .f32 0x3E4CCCCD#32) = (l : EReal))
include hl

/-- A point's output block. -/
theorem point (r : Fin 512) (d : Fin 128) :
    outAt m c t (ix2 r d) = spec (rho (P m c)) l (fun d => N m c (ix1 d)) (Ideal.ofBits .f32 0x3F4CCCCD#32)
      (512 * (t.val % 32) + r.val) (t.val / 32) d := by
  have h1 : ∀ f : Fin 128, _ := fun f => sweep_at (reads m c t hp 0 r f)
  have h2 : ∀ f : Fin 128, _ := fun f => sweep_at (reads m c t hp 1 r f)
  unfold outAt
  rw [out_at, block_l, block_n, block_g m c t hp, hl, spec, gate]
  refine congrArg₂ (· * ·) (congrArg (fun f => normed f _ _ d) (funext fun f => ?_)) rfl
  rw [diff, EReal.coe_sub, EReal.coe_mul]
  refine congrArg₂ (· - ·) (Eq.trans ?_ (h1 f)) (congrArg ((l : EReal) * ·) (h2 f))
  exact congrArg (fun j => Ideal.div (totalOf (k0_pay15 (X0_2 m c t)) (iblk m c 3 t) (iblk m c 4 t) (ix2 f j))
    (weightOf (k0_pay15 (X0_2 m c t)) (iblk m c 3 t) (iblk m c 4 t) (ix2 0 j))) (Fin.ext (by show r.val = 512 * 0 + r.val; omega))

/-- The result's latent rows after the run. -/
theorem final : (dats m 0 c).arrAt 6 cfg0.N
    = fun i => if (i 0).val < 16384 then specArr (P m c) (L m c) (N m c) (Ideal.ofBits .f32 0x3E4CCCCD#32) (Ideal.ofBits .f32 0x3F4CCCCD#32) i
      else (dats m 0 c).A 6 i := by
  refine (dats m 0 c).arrAt_eq_of_coversWhere 6 (specArr (P m c) (L m c) (N m c) _ _) (fun β => β (0 : Fin 2) < 32) (by decide +kernel)
    (fun t _ y => ?_) (fun j => by blk_simp [Pipeline.Window.cell_apply]; omega)
  have ht := (place t).2.2.2.2.2.2.2
  have h0 : (y 0).val < 512 := ((cfg0.win 6).xinj (cfg0.grid.coords t) y 0).isLt
  have h1 : (y 1).val < 128 := ((cfg0.win 6).xinj (cfg0.grid.coords t) y 1).isLt
  have hx : (cfg0.win 6).xinj (cfg0.grid.coords t) y = (ix2 ⟨(y 0).val, h0⟩ ⟨(y 1).val, h1⟩ : S512x128.Idx) := by
    funext a
    fin_cases a <;> rfl
  have hr : 512 * (t.val % 32) + (y 0).val < 16640 := by omega
  have hc : 128 * (t.val / 32) + (y 1).val < 1024 := by omega
  have he : (win0_6.blk t).view.emb y = (ix2 ⟨512 * (t.val % 32) + (y 0).val, hr⟩ ⟨128 * (t.val / 32) + (y 1).val, hc⟩ : S16640x1024.Idx) := by
    blk_point [place t]
  rw [after_o, hx]
  refine (point m c t hp hl _ _).trans ?_
  refine Eq.trans ?_ (congrArg (specArr (P m c) (L m c) (N m c) _ _) he).symm
  show _ = spec _ (factor _ _).toReal _ _ (512 * (t.val % 32) + (y 0).val) ((128 * (t.val / 32) + (y 1).val) / 128)
    ⟨(128 * (t.val / 32) + (y 1).val) % 128, _⟩
  have e1 : (128 * (t.val / 32) + (y 1).val) / 128 = t.val / 32 := by omega
  have e2 : (⟨(128 * (t.val / 32) + (y 1).val) % 128, Nat.mod_lt _ (by decide)⟩ : Fin 128) = ⟨(y 1).val, h1⟩ := Fin.ext (by dsimp only; omega)
  rw [e1, e2, hl, EReal.toReal_coe]

end

end Cert.Diff

end
-- ==== Proof.DiffRef.lean ====
module

public import proofs.«01_k».proof.Proof.DiffSpec
public import proofs.«01_k».proof.Proof.Gen.Reference3Ideal.Run

/-! What the differential attention's reference computes, step by step. -/

@[expose] public section

set_option maxRecDepth 16384
set_option maxHeartbeats 2000000

noncomputable section

namespace Cert.Diff

open Cert.Reference3Ideal Cert.Reference3Ideal.Gen Cert.Online
open Idealize.ShloMosaic Idealize.ShloMosaic.TcCoe Idealize.SL.Sem

variable (p : FVec Ideal S16640x7168 .bf16)

/-- The queries, by head and half. -/
def refQ : FVec Ideal S8x2x16384x64 .f32 :=
  shapeCast _ (transpose S16x16384x64 [1, 0, 2]
    (shapeCast _ (extractStridedSlice S16384x1024 ![0, 0]
      (extractStridedSlice S16640x1024 ![0, 0] (extf .f32 p bitsLt_bf16_f32) slices_S16640x7168_S16640x1024_0_0)
      slices_S16640x1024_S16384x1024_0_0) shapeCasts_S16384x1024_S16384x16x64)
    transposes_S16384x16x64_S16x16384x64_1_0_2) shapeCasts_S16x16384x64_S8x2x16384x64

/-- The keys, by head and half. -/
def refK : FVec Ideal S8x2x16640x64 .f32 :=
  shapeCast _ (transpose S16x16640x64 [1, 0, 2]
    (shapeCast _ (extractStridedSlice S16640x1024 ![0, 1024] (extf .f32 p bitsLt_bf16_f32) slices_S16640x7168_S16640x1024_0_1024)
      shapeCasts_S16640x1024_S16640x16x64)
    transposes_S16640x16x64_S16x16640x64_1_0_2) shapeCasts_S16x16640x64_S8x2x16640x64

/-- The scores of queries and keys, times the logarithm of two. -/
def scoresOf (q : FVec Ideal S8x16384x64 .f32) (k : FVec Ideal S8x16640x64 .f32) : FVec Ideal S8x16384x16640 .f32 :=
  mulf (Host.dotGeneral dot_S8x16384x64_S8x16640x64_S8x16384x16640_2_2_1_1_0_0 none q k)
    (broadcastInDim S8x16384x16640 ![] bcast_S_S8x16384x16640 (id (Host.log (constant S_ .f32 0x40000000#32))))

/-- The scores of the first half. -/
def scores1 : FVec Ideal S8x16384x16640 .f32 :=
  scoresOf (shapeCast _ (extractStridedSlice S8x1x16384x64 ![0, 0, 0, 0] (refQ p) slices_S8x2x16384x64_S8x1x16384x64_0_0_0_0) shapeCasts_S8x1x16384x64_S8x16384x64)
    (shapeCast _ (extractStridedSlice S8x1x16640x64 ![0, 0, 0, 0] (refK p) slices_S8x2x16640x64_S8x1x16640x64_0_0_0_0) shapeCasts_S8x1x16640x64_S8x16640x64)

/-- The scores of the second half. -/
def scores2 : FVec Ideal S8x16384x16640 .f32 :=
  scoresOf (shapeCast _ (extractStridedSlice S8x1x16384x64 ![0, 1, 0, 0] (refQ p) slices_S8x2x16384x64_S8x1x16384x64_0_1_0_0) shapeCasts_S8x1x16384x64_S8x16384x64)
    (shapeCast _ (extractStridedSlice S8x1x16640x64 ![0, 1, 0, 0] (refK p) slices_S8x2x16640x64_S8x1x16640x64_0_1_0_0) shapeCasts_S8x1x16640x64_S8x16640x64)

/-- The largest score of a row. -/
def refMax (s : FVec Ideal S8x16384x16640 .f32) : FVec Ideal S8x16384 .f32 :=
  maximumf (broadcastInDim S8x16384 ![] bcast_S_S8x16384 (constant S_ .f32 0xFF800000#32))
    (Host.reduce FloatOps.maximumf s (constant S_ .f32 0xFF800000#32) reducesTo_S8x16384x16640_S8x16384_d2 h_S_)

/-- The exponentials of the scores less the largest. -/
def refExp (s : FVec Ideal S8x16384x16640 .f32) : FVec Ideal S8x16384x16640 .f32 :=
  Host.exp (subf s (broadcastInDim S8x16384x16640 ![0, 1, 2] bcast_S8x16384x1_S8x16384x16640_0_1_2
    (broadcastInDim S8x16384x1 ![0, 1] bcast_S8x16384_S8x16384x1_0_1 (refMax s))))

/-- The weights. -/
def refWeights (s : FVec Ideal S8x16384x16640 .f32) : FVec Ideal S8x16384x16640 .f32 :=
  Host.divf (refExp s) (broadcastInDim S8x16384x16640 ![0, 1, 2] bcast_S8x16384x1_S8x16384x16640_0_1_2
    (broadcastInDim S8x16384x1 ![0, 1] bcast_S8x16384_S8x16384x1_0_1
      (Host.reduceAdd (refExp s) (constant S_ .f32 0x00000000#32) reducesTo_S8x16384x16640_S8x16384_d2 h_S_)))

/-- The factor of the second half's weights. -/
def refFactor (L : FVec Ideal S4x64 .f32) (ι : BitVec 32) : FVec Ideal S_ .f32 :=
  addf (subf
    (Host.exp (Host.reduceAdd (mulf (shapeCast _ (extractStridedSlice S1x64 ![0, 0] L slices_S4x64_S1x64_0_0) shapeCasts_S1x64_S64)
      (shapeCast _ (extractStridedSlice S1x64 ![1, 0] L slices_S4x64_S1x64_1_0) shapeCasts_S1x64_S64))
      (constant S_ .f32 0x00000000#32) reducesTo_S64_S_d0 h_S_))
    (Host.exp (Host.reduceAdd (mulf (shapeCast _ (extractStridedSlice S1x64 ![2, 0] L slices_S4x64_S1x64_2_0) shapeCasts_S1x64_S64)
      (shapeCast _ (extractStridedSlice S1x64 ![3, 0] L slices_S4x64_S1x64_3_0) shapeCasts_S1x64_S64))
      (constant S_ .f32 0x00000000#32) reducesTo_S64_S_d0 h_S_))) (constant S_ .f32 ι)

/-- The values, by head. -/
def refValues : FVec Ideal S8x16640x128 .f32 :=
  transpose S8x16640x128 [1, 0, 2]
    (shapeCast _ (extractStridedSlice S16640x1024 ![0, 2048] (extf .f32 p bitsLt_bf16_f32) slices_S16640x7168_S16640x1024_0_2048)
      shapeCasts_S16640x1024_S16640x8x128) transposes_S16640x8x128_S8x16640x128_1_0_2

/-- The difference of the weights, applied to the values. -/
def refDiff (w1 w2 : FVec Ideal S8x16384x16640 .f32) (l : FVec Ideal S_ .f32) (v : FVec Ideal S8x16640x128 .f32) : FVec Ideal S8x16384x128 .f32 :=
  Host.dotGeneral dot_S8x16384x16640_S8x16640x128_S8x16384x128_2_1_1_2_0_0 none
    (subf w1 (mulf (broadcastInDim S8x16384x16640 ![] bcast_S_S8x16384x16640 l) w2)) v

/-- The norm with its gain, times a constant. -/
def refNorm (o : FVec Ideal S8x16384x128 .f32) (n : FVec Ideal S128 .f32) (κ : BitVec 32) : FVec Ideal S8x16384x128 .f32 :=
  mulf (mulf (mulf o (broadcastInDim S8x16384x128 ![0, 1, 2] bcast_S8x16384x1_S8x16384x128_0_1_2
      (Host.rsqrt (addf (Host.divf (broadcastInDim S8x16384x1 ![0, 1] bcast_S8x16384_S8x16384x1_0_1
          (Host.reduceAdd (mulf o o) (constant S_ .f32 0x00000000#32) reducesTo_S8x16384x128_S8x16384_d2 h_S_))
          (broadcastInDim S8x16384x1 ![] bcast_S_S8x16384x1 (constant S_ .f32 0x43000000#32)))
        (broadcastInDim S8x16384x1 ![] bcast_S_S8x16384x1 (constant S_ .f32 0x358637BD#32))))))
    (broadcastInDim S8x16384x128 ![0, 1, 2] bcast_S1x1x128_S8x16384x128_0_1_2 (broadcastInDim S1x1x128 ![2] bcast_S128_S1x1x128_2 n)))
    (broadcastInDim S8x16384x128 ![] bcast_S_S8x16384x128 (constant S_ .f32 κ))

/-- The gate's columns. -/
def refGate : FVec Ideal S16384x1024 .f32 :=
  extractStridedSlice S16384x1024 ![0, 0]
    (extractStridedSlice S16640x1024 ![0, 3072] (extf .f32 p bitsLt_bf16_f32) slices_S16640x7168_S16640x1024_0_3072)
    slices_S16640x1024_S16384x1024_0_0

/-- The whole result. -/
def refOut (a : FVec Ideal S8x16384x128 .f32) (g : FVec Ideal S16384x1024 .f32) : FVec Ideal S16640x1024 .bf16 :=
  truncf .bf16 (concatenate S16640x1024 0 [⟨S16384x1024,
    mulf (shapeCast _ (transpose S16384x8x128 [1, 0, 2] a transposes_S8x16384x128_S16384x8x128_1_0_2) shapeCasts_S16384x8x128_S16384x1024)
      (mulf g (Host.divf (broadcastInDim S16384x1024 ![] bcast_S_S16384x1024 (constant S_ .f32 0x3F800000#32))
        (addf (broadcastInDim S16384x1024 ![] bcast_S_S16384x1024 (constant S_ .f32 0x3F800000#32)) (Host.exp (Host.negf g)))))⟩,
    ⟨S256x1024, (broadcastInDim S256x1024 ![] bcast_S_S256x1024 (constant S_ .f32 0x00000000#32))⟩]
    concatenates_S16384x1024_S256x1024_S16640x1024_d0) bitsLt_bf16_f32

/-- The reference's steps in order, over its three arguments and its two constants. -/
def refTerm (L : FVec Ideal S4x64 .f32) (n : FVec Ideal S128 .f32) (ι κ : BitVec 32) : FVec Ideal S16640x1024 .bf16 :=
  refOut (refNorm (refDiff (refWeights (scores1 p)) (refWeights (scores2 p)) (refFactor L ι) (refValues p)) n κ) (refGate p)

/-- The generated term is these steps in order. -/
theorem res_eq (m : (ℓ : Loc nD τ sig) → Buf (Elt Ideal) ℓ) (c : Dev nD) :
    Value.res_main_v99 m c = refTerm (m ((c.tc : Thread nD τ).loc main_arg0)) (m ((c.tc : Thread nD τ).loc main_arg1))
      (m ((c.tc : Thread nD τ).loc main_arg2)) 0x3E4CCCCD#32 0x3F4CCCCD#32 := by
  unfold Value.res_main_v99
  rfl

theorem refQ_at (h : Fin 8) (e : Fin 2) (r : Fin 16384) (x : Fin 64) :
    refQ p (ix4 h e r x) = p (ix2 ⟨r.val, by omega⟩ ⟨128 * h.val + 64 * e.val + x.val, by omega⟩) := by
  unfold refQ
  pointwise []
  refine congrArg p (congrArg₂ ix2 (Fin.ext ?_) (Fin.ext ?_)) <;> dsimp only <;> omega

theorem refK_at (h : Fin 8) (e : Fin 2) (k : Fin 16640) (x : Fin 64) :
    refK p (ix4 h e k x) = p (ix2 k ⟨1024 + 128 * h.val + 64 * e.val + x.val, by omega⟩) := by
  unfold refK
  pointwise []
  refine congrArg p (congrArg₂ ix2 (Fin.ext ?_) (Fin.ext ?_)) <;> dsimp only <;> omega

theorem scoresOf_at (q : FVec Ideal S8x16384x64 .f32) (k : FVec Ideal S8x16640x64 .f32) (h : Fin 8) (r : Fin 16384) (j : Fin 16640) :
    scoresOf q k (ix3 h r j)
      = (∑ x : Fin 64, q (ix3 h r x) * k (ix3 h j x)) * Ideal.log (Ideal.ofBits .f32 0x40000000#32) := by
  unfold scoresOf
  pointwise []
  rfl

theorem scores1_at (h : Fin 8) (r : Fin 16384) (j : Fin 16640) :
    scores1 p (ix3 h r j)
      = (∑ x : Fin 64, refQ p (ix4 h 0 r x) * refK p (ix4 h 0 j x)) * Ideal.log (Ideal.ofBits .f32 0x40000000#32) := by
  unfold scores1
  rw [scoresOf_at]
  generalize refQ p = Q
  generalize refK p = K
  pointwise []

theorem scores2_at (h : Fin 8) (r : Fin 16384) (j : Fin 16640) :
    scores2 p (ix3 h r j)
      = (∑ x : Fin 64, refQ p (ix4 h 1 r x) * refK p (ix4 h 1 j x)) * Ideal.log (Ideal.ofBits .f32 0x40000000#32) := by
  unfold scores2
  rw [scoresOf_at]
  generalize refQ p = Q
  generalize refK p = K
  pointwise []

theorem exp_at (s : FVec Ideal S8x16384x16640 .f32) (h : Fin 8) (r : Fin 16384) (k : Fin 16640) :
    refExp s (ix3 h r k) = Ideal.exp (s (ix3 h r k) - refMax s (ix2 h r)) := by
  unfold refExp
  generalize refMax s = M
  pointwise []
  try rfl

theorem weights_at (s : FVec Ideal S8x16384x16640 .f32) (h : Fin 8) (r : Fin 16384) (k : Fin 16640) :
    refWeights s (ix3 h r k) = Ideal.div (refExp s (ix3 h r k)) (∑ j : Fin 16640, refExp s (ix3 h r j)) := by
  unfold refWeights
  generalize refExp s = M
  pointwise []
  try rfl

theorem factor_at (L : FVec Ideal S4x64 .f32) (ι : BitVec 32) : refFactor L ι ix0 = factor L (Ideal.ofBits .f32 ι) := by
  unfold refFactor factor
  pointwise []
  try rfl

theorem values_at (h : Fin 8) (k : Fin 16640) (d : Fin 128) :
    refValues p (ix3 h k d) = p (ix2 k ⟨2048 + 128 * h.val + d.val, by omega⟩) := by
  unfold refValues
  pointwise []
  exact congrArg p (congrArg₂ ix2 rfl (Fin.ext (by dsimp only; omega)))

theorem diff_at (w1 w2 : FVec Ideal S8x16384x16640 .f32) (l : FVec Ideal S_ .f32) (v : FVec Ideal S8x16640x128 .f32)
    (h : Fin 8) (r : Fin 16384) (d : Fin 128) :
    refDiff w1 w2 l v (ix3 h r d)
      = ∑ k : Fin 16640, (w1 (ix3 h r k) - l ix0 * w2 (ix3 h r k)) * v (ix3 h k d) := by
  unfold refDiff
  pointwise []
  try rfl

theorem norm_at (o : FVec Ideal S8x16384x128 .f32) (n : FVec Ideal S128 .f32) (κ : BitVec 32) (h : Fin 8) (r : Fin 16384) (d : Fin 128) :
    refNorm o n κ (ix3 h r d) = normed (fun e => o (ix3 h r e)) (n (ix1 d)) (Ideal.ofBits .f32 κ) d := by
  unfold refNorm normed
  pointwise []
  try rfl

theorem gate_at (r : Fin 16384) (x : Fin 1024) : refGate p (ix2 r x) = p (ix2 ⟨r.val, by omega⟩ ⟨3072 + x.val, by omega⟩) := by
  unfold refGate
  pointwise []
  try rfl

theorem out_ref_at (a : FVec Ideal S8x16384x128 .f32) (z : FVec Ideal S16384x1024 .f32) (r : Fin 16384) (h : Fin 8) (d : Fin 128) :
    refOut a z (ix2 ⟨r.val, by omega⟩ ⟨128 * h.val + d.val, by omega⟩)
      = a (ix3 h r d) * (z (ix2 r ⟨128 * h.val + d.val, by omega⟩)
          * Ideal.div 1 (1 + Ideal.exp (- z (ix2 r ⟨128 * h.val + d.val, by omega⟩)))) := by
  unfold refOut
  pointwise []

end Cert.Diff

end
-- ==== Proof.DiffRefSpec.lean ====
module

public import proofs.«01_k».proof.Proof.DiffRef
public import proofs.«01_k».proof.Proof.GqaRefSpec

/-! The reference's result is the function `spec`. -/

@[expose] public section

set_option maxRecDepth 16384

noncomputable section

namespace Cert.Diff

open Cert.Reference3Ideal Cert.Reference3Ideal.Gen Cert.Online
open Cert.Gqa (log_two exp_two gate_eq)
open Idealize.ShloMosaic Idealize.ShloMosaic.TcCoe Idealize.SL.Sem

theorem max_ref_at (s : FVec Ideal S8x16384x16640 .f32) (hs : ∀ i, ∃ z : ℝ, s i = (z : EReal)) (j : S8x16384.Idx) :
    ∃ X : ℝ, refMax s j = (X : EReal) := by
  obtain ⟨X, hX⟩ := Cert.Gqa.reduce_max_coe s (constant S_ .f32 0xFF800000#32) reducesTo_S8x16384x16640_S8x16384_d2 (by decide) h_S_ (by decide) hs
    (by show Ideal.ofBits FTy.f32 4286578688#32 = ⊥; simp [Ideal.ofBits, Ideal.ieee]) j
  refine ⟨X, ?_⟩
  unfold refMax
  exact (Cert.Gqa.max_bot_at _ _ j (by show Ideal.ofBits FTy.f32 4286578688#32 = ⊥; simp [Ideal.ofBits, Ideal.ieee])).trans hX

/-- The weights of real scores are real numbers, and their weighted sum of any values is the attention. -/
theorem weights_real (s : FVec Ideal S8x16384x16640 .f32) (σ : ℕ → ℝ) (h : Fin 8) (r : Fin 16384)
    (hall : ∀ i, ∃ z : ℝ, s i = (z : EReal)) (hs : ∀ k : Fin 16640, s (ix3 h r k) = ((σ k.val * Real.log 2 : ℝ) : EReal)) :
    ∃ w : ℕ → ℝ, (∀ k : Fin 16640, refWeights s (ix3 h r k) = (w k.val : EReal))
      ∧ ∀ v : ℕ → ℝ, ∑ k : Fin 16640, w k.val * v k.val = att σ v 16640 := by
  obtain ⟨X, hX⟩ := max_ref_at s hall (ix2 h r)
  have he : ∀ k : Fin 16640, refExp s (ix3 h r k) = (((2 : ℝ) ^ (σ k.val - X / Real.log 2) : ℝ) : EReal) := fun k => by
    rw [exp_at, hX, hs, ← EReal.coe_sub, Ideal.exp_coe, exp_two]
  have hsum : ∑ k : Fin 16640, refExp s (ix3 h r k)
      = ((∑ k ∈ Finset.range 16640, (2 : ℝ) ^ (σ k - X / Real.log 2) : ℝ) : EReal) := by
    rw [Finset.sum_range, coe_sum]
    exact Finset.sum_congr rfl fun k _ => he k
  have hpos := weights_pos σ 16640 (by norm_num) (X / Real.log 2)
  refine ⟨fun k => (2 : ℝ) ^ (σ k - X / Real.log 2) * (1 / ∑ k ∈ Finset.range 16640, (2 : ℝ) ^ (σ k - X / Real.log 2)), fun k => ?_, fun v => ?_⟩
  · rw [weights_at, hsum, he, Ideal.div_coe hpos.ne', ← EReal.coe_mul]
  · rw [← att_shift σ v 16640 (X / Real.log 2), Finset.sum_mul]
    generalize (1 / ∑ k ∈ Finset.range 16640, (2 : ℝ) ^ (σ k - X / Real.log 2)) = z
    rw [Finset.sum_range]
    exact Finset.sum_congr rfl fun k _ => by ring

variable {p : FVec Ideal S16640x7168 .bf16} (hp : ∀ i, (p i : EReal) ≠ ⊥ ∧ (p i : EReal) ≠ ⊤)
include hp

theorem scores1_real (h : Fin 8) (r : Fin 16384) (k : Fin 16640) :
    scores1 p (ix3 h r k) = ((score (rho p) r.val h.val 0 k.val * Real.log 2 : ℝ) : EReal) := by
  rw [scores1_at, log_two, EReal.coe_mul, score, coe_sum]
  refine congrArg₂ (· * ·) (Finset.sum_congr rfl fun x _ => ?_) rfl
  rw [refQ_at, refK_at, rho_eq hp, rho_eq hp, ← EReal.coe_mul, mul_comm]
  rfl

theorem scores2_real (h : Fin 8) (r : Fin 16384) (k : Fin 16640) :
    scores2 p (ix3 h r k) = ((score (rho p) r.val h.val 1 k.val * Real.log 2 : ℝ) : EReal) := by
  rw [scores2_at, log_two, EReal.coe_mul, score, coe_sum]
  refine congrArg₂ (· * ·) (Finset.sum_congr rfl fun x _ => ?_) rfl
  rw [refQ_at, refK_at, rho_eq hp, rho_eq hp, ← EReal.coe_mul, mul_comm]
  rfl

theorem diff_real {l : FVec Ideal S_ .f32} {z : ℝ} (hl : l ix0 = (z : EReal)) (h : Fin 8) (r : Fin 16384) (d : Fin 128) :
    refDiff (refWeights (scores1 p)) (refWeights (scores2 p)) l (refValues p) (ix3 h r d)
      = (diff (rho p) z r.val h.val d.val : EReal) := by
  obtain ⟨w1, h1, a1⟩ := weights_real (scores1 p) _ h r (fun i => by idx_vars i; exact ⟨_, scores1_real hp _ _ _⟩) (scores1_real hp h r)
  obtain ⟨w2, h2, a2⟩ := weights_real (scores2 p) _ h r (fun i => by idx_vars i; exact ⟨_, scores2_real hp _ _ _⟩) (scores2_real hp h r)
  rw [diff_at, diff, ← a1, ← a2, Finset.mul_sum, ← Finset.sum_sub_distrib, coe_sum]
  refine Finset.sum_congr rfl fun k _ => ?_
  rw [h1, h2, hl, values_at, rho_eq hp, ← EReal.coe_mul, ← EReal.coe_sub, ← EReal.coe_mul]
  refine congrArg _ ?_
  ring

/-- The reference's result at a latent row. -/
theorem ref_at {L : FVec Ideal S4x64 .f32} {ι : BitVec 32} {z : ℝ} (hl : factor L (Ideal.ofBits .f32 ι) = (z : EReal))
    (n : FVec Ideal S128 .f32) (κ : BitVec 32) (r : Fin 16384) (h : Fin 8) (d : Fin 128) :
    refTerm p L n ι κ (ix2 ⟨r.val, by omega⟩ ⟨128 * h.val + d.val, by omega⟩)
      = spec (rho p) z (fun d => n (ix1 d)) (Ideal.ofBits .f32 κ) r.val h.val d := by
  unfold refTerm
  rw [out_ref_at, norm_at, gate_at, rho_eq hp, ← gate_eq, spec]
  refine congrArg₂ (· * ·) (congrArg (fun f => normed f _ _ d) (funext fun e => diff_real hp ((factor_at L ι).trans hl) h r e)) ?_
  simp only [Nat.add_assoc]

end Cert.Diff

end
-- ==== Proof.DiffClaim.lean ====
module

public import proofs.«01_k».proof.Defs
public import proofs.«01_k».proof.Proof.Gen.Kernel3
public import proofs.«01_k».proof.Proof.DiffKernel
public import proofs.«01_k».proof.Proof.DiffRefSpec
public import proofs.«01_k».proof.Proof.GqaClaim

/-! The differential attention's claims: both programs end, and on the latent rows of a finite projection
and finite parameters their results are equal. -/

@[expose] public section

set_option maxRecDepth 16384

noncomputable section

namespace Cert.Diff

open Cert.Gqa (ofBool_true)
open Idealize.ShloMosaic Idealize.ShloMosaic.TcCoe Idealize.SL.Sem

/-- The precondition's first half read: every entry of the projection is a real number. -/
theorem finite_p [Cert.Pre_finite3.Facts] (p : FVec Ideal (⟨2, ![16640, 7168]⟩ : Shape) .bf16) (L : FVec Ideal (⟨2, ![4, 64]⟩ : Shape) .f32)
    (n : FVec Ideal (⟨1, ![128]⟩ : Shape) .f32)
    (h : (Cert.Pre_finite3.fn (F := Ideal) p L n).1 = fun _ => 1#1) (i : (⟨2, ![16640, 7168]⟩ : Shape).Idx) :
    (p i : EReal) ≠ ⊥ ∧ (p i : EReal) ≠ ⊤ := by
  have h1 := congrFun h i
  have hb : Ideal.ofBits FTy.bf16 0xFF80#16 = ⊥ := by simp [Ideal.ofBits, Ideal.ieee]
  have ht : Ideal.ofBits FTy.bf16 0x7F80#16 = ⊤ := by simp [Ideal.ofBits, Ideal.ieee]
  idx_vars i
  unfold Cert.Pre_finite3.fn at h1
  pointwise [] at h1
  obtain ⟨h2, h3⟩ := IntOp.andi_eq_one.1 h1
  rw [hb] at h2
  replace h2 := of_decide_eq_true (ofBool_true h2)
  rw [ht] at h3
  replace h3 := of_decide_eq_true (ofBool_true h3)
  exact ⟨h2.ne', h3.ne⟩

/-- Its second half read: every parameter of the factor is a real number. -/
theorem finite_L [Cert.Pre_finite3.Facts] (p : FVec Ideal (⟨2, ![16640, 7168]⟩ : Shape) .bf16) (L : FVec Ideal (⟨2, ![4, 64]⟩ : Shape) .f32)
    (n : FVec Ideal (⟨1, ![128]⟩ : Shape) .f32)
    (h : (Cert.Pre_finite3.fn (F := Ideal) p L n).2 = fun _ => 1#1) (i : (⟨2, ![4, 64]⟩ : Shape).Idx) :
    (L i : EReal) ≠ ⊥ ∧ (L i : EReal) ≠ ⊤ := by
  have h1 := congrFun h i
  have hb : Ideal.ofBits FTy.f32 0xFF800000#32 = ⊥ := by simp [Ideal.ofBits, Ideal.ieee]
  have ht : Ideal.ofBits FTy.f32 0x7F800000#32 = ⊤ := by simp [Ideal.ofBits, Ideal.ieee]
  idx_vars i
  unfold Cert.Pre_finite3.fn at h1
  pointwise [] at h1
  obtain ⟨h2, h3⟩ := IntOp.andi_eq_one.1 h1
  rw [hb] at h2
  replace h2 := of_decide_eq_true (ofBool_true h2)
  rw [ht] at h3
  replace h3 := of_decide_eq_true (ofBool_true h3)
  exact ⟨h2.ne', h3.ne⟩

/-- The mask read: a row it selects is a latent row. -/
theorem latent_iff [Cert.On_latent_rows3.Facts] (p : FVec Ideal (⟨2, ![16640, 7168]⟩ : Shape) .bf16) (L : FVec Ideal (⟨2, ![4, 64]⟩ : Shape) .f32)
    (n : FVec Ideal (⟨1, ![128]⟩ : Shape) .f32)
    (i : (⟨2, ![16640, 1024]⟩ : Shape).Idx) (h : Cert.On_latent_rows3.fn (F := Ideal) p L n i = 1#1) : (i 0).val < 16384 := by
  idx_vars i
  unfold Cert.On_latent_rows3.fn at h
  pointwise [] at h
  have := IntOp.cmpi_slt.1 h
  rw [BitVec.toInt_eq_toNat_of_lt (by rw [BitVec.toNat_ofNat]; omega), BitVec.toNat_ofNat] at this
  have h2 : (16384#32).toInt = 16384 := by decide
  rw [h2] at this
  show i0.val < 16384
  omega

/-- The constant the factor starts from is a real number. -/
theorem iota_real : ∃ z : ℝ, Ideal.ofBits FTy.f32 0x3E4CCCCD#32 = (z : EReal) := by
  simp [Ideal.ofBits, Ideal.ieee]
  exact ⟨_, (EReal.coe_mul _ _).symm⟩

/-- The two programs' body tables are the same. -/
theorem defs₀_same : Cert.Kernel3.defs₀ (F := Bits) = Cert.Kernel3Ideal.defs₀ (F := Bits) := by
  unfold Cert.Kernel3.defs₀ Cert.Kernel3Ideal.defs₀
  refine congrArg Defs.onTc (funext fun l => funext fun x => ?_)
  match l, x with
  | 0, (t, s) => rfl

/-- … and so are their whole tables. -/
theorem defs_same : Cert.Kernel3.defs (F := Bits) = Cert.Kernel3Ideal.defs (F := Bits) :=
  congrArg (Pipeline.defs (Cert.Kernel3Ideal.pcfgs (F := Bits))) defs₀_same

/-- The kernel's frame over machine words, from the one run. -/
theorem frame_kernel [Cert.Kernel3.Facts] : Cert.quiescent_Kernel3 := by
  intro m ρ _
  have h := (θ_run Cert.Kernel3Ideal.defs (onTc (τ := Cert.Kernel3Ideal.τ) (Cert.Kernel3Ideal.main (F := Bits))) ⟨m, fun _ => 0, ρ⟩).mono
    (Q' := fun r => (∀ c : Dev Cert.Kernel3Ideal.nD,
        r.2.mem ((c.tc : Thread Cert.Kernel3Ideal.nD Cert.Kernel3Ideal.τ).loc Cert.Kernel3Ideal.main_arg0)
          = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1)
          = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2)
          = m ((c.tc : Thread Cert.Kernel3Ideal.nD Cert.Kernel3Ideal.τ).loc Cert.Kernel3Ideal.main_arg2)) ∧ r.2.sem = fun _ => 0)
    (fun _ h => ⟨fun c => (h.1 c).2, h.2⟩) (run (F := Bits) m ρ)
  rw [← defs_same] at h
  exact h

theorem frame_ideal [Cert.Kernel3Ideal.Facts] : Cert.quiescent_Kernel3Ideal := fun m ρ _ =>
  (θ_run Cert.Kernel3Ideal.defs _ _).mono (fun _ h => ⟨fun c => (h.1 c).2, h.2⟩) (run (F := Ideal) m ρ)

theorem frame_ideal_finite [Cert.Kernel3Ideal.Facts] [Cert.Pre_finite3.Facts] : Cert.quiescent_Kernel3Ideal_pre_finite3 :=
  fun m ρ _ => frame_ideal m ρ trivial

theorem frame_ref [Cert.Reference3Ideal.Facts] : Cert.quiescent_Reference3Ideal := fun m g _ =>
  (θ_run _ _ _).mono (fun r h => ⟨fun c => (h c).2, sem_eq_zero_of_no_sems (by decide) r.2⟩)
    (Cert.Reference3Ideal.Value.run m g)

theorem frame_ref_finite [Cert.Reference3Ideal.Facts] [Cert.Pre_finite3.Facts] : Cert.quiescent_Reference3Ideal_pre_finite3 :=
  fun m g _ => frame_ref m g trivial

theorem algebraic [Cert.Kernel3Ideal.Facts] [Cert.Reference3Ideal.Facts] [Cert.Pre_finite3.Facts] [Cert.On_latent_rows3.Facts] :
    Cert.algebraic_Kernel3Ideal_Reference3Ideal_on_latent_rows3_pre_finite3 := by
  intro m g m' g' hf hag
  have hp := fun c => finite_p _ _ _ (hf c).1
  obtain ⟨z, hz⟩ := iota_real
  have hl := fun c => factor_real (finite_L _ _ _ (hf c).2) hz
  refine ⟨fun c => specArr (P m c) (L m c) (N m c) (Ideal.ofBits .f32 0x3E4CCCCD#32) (Ideal.ofBits .f32 0x3F4CCCCD#32), ?_, ?_⟩
  · refine (θ_run Cert.Kernel3Ideal.defs _ _).mono (fun r h c => ⟨fun i hi => ?_, (h.1 c).2⟩) (run (F := Ideal) m g)
    rw [(h.1 c).1, final m c (hp c) (hl c)]
    exact if_pos (latent_iff _ _ _ i hi)
  · refine (θ_run _ _ _).mono (fun r h c => ⟨fun i hi => ?_, (h c).2⟩) (Cert.Reference3Ideal.Value.run m' g')
    have hr := latent_iff _ _ _ i hi
    rw [(h c).1, res_eq, (hag c).1, (hag c).2.1, (hag c).2.2]
    idx_vars i
    have := ref_at (hp c) (hl c) (N m c) 0x3F4CCCCD#32 ⟨i0.val, hr⟩ ⟨i1.val / 128, by omega⟩ ⟨i1.val % 128, by omega⟩
    refine Eq.trans (congrArg (fun x => refTerm (P m c) (L m c) (N m c) _ _ (ix2 i0 x)) (Fin.ext ?_)) this
    dsimp only
    omega

end Cert.Diff

end
-- ==== Proof.lean ====
/- The claims, put together (Proof/GqaClaim.lean the odd layers' attention, Proof/LastPair.lean the last output projection
   with the final norm, Proof/DiffClaim.lean the first layer's differential attention). -/
module

public import proofs.«01_k».proof.Proof.GqaClaim
public import proofs.«01_k».proof.Proof.LastPair
public import proofs.«01_k».proof.Proof.DiffClaim
public import proofs.«01_k».proof.Proof.Gen.Kernel
public import proofs.«01_k».proof.Proof.Gen.KernelIdeal
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame.Runs
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

instance : Cert.Pre_finite.Facts := ⟨by decide⟩
instance : Cert.On_latent_rows.Facts := ⟨by decide⟩
instance : Cert.Pre_finite3.Facts := ⟨by decide, by decide⟩
instance : Cert.On_latent_rows3.Facts := ⟨by decide⟩

theorem claim : Cert.Claim :=
  ⟨inferInstance, inferInstance, inferInstance, Cert.Kernel2.Gen.facts, Cert.Kernel2Ideal.Gen.facts, Cert.Reference2Ideal.Gen.facts,
    inferInstance, inferInstance, inferInstance, inferInstance, inferInstance, inferInstance, inferInstance,
    Cert.Gqa.frame_kernel, Cert.Gqa.frame_ideal,
    Cert.Gqa.frame_ideal_finite, Cert.Gqa.frame_ref, Cert.Gqa.frame_ref_finite,
    fun m ρ _ => Cert.Kernel2.Gen.frame m ρ, fun m ρ _ => Cert.Kernel2Ideal.Gen.frame m ρ, Cert.Last.frame_ref,
    Cert.Diff.frame_kernel, Cert.Diff.frame_ideal, Cert.Diff.frame_ideal_finite, Cert.Diff.frame_ref, Cert.Diff.frame_ref_finite,
    trivial, Cert.Gqa.algebraic, trivial, Cert.Last.algebraic, trivial, Cert.Diff.algebraic⟩

end Cert.Proof

end
